-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v357) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S1000000 : Shape := ⟨1, ![1000000]⟩
abbrev S1x10 : Shape := ⟨2, ![1, 10]⟩
abbrev S1 : Shape := ⟨1, ![1]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S1x10 : S_.BroadcastsInDim S1x10 (![] : Fin 0 → Fin S1x10.rank)
  reducesTo_S1x10_S_d0_1 : S1x10.ReducesTo [0, 1] S_

variable [Facts]

def fn_part1 {F : FTy → Type} [FloatOps F] (main_v11 : IVec S_ 1) (main_v15 : IVec S_ 1) : IVec S_ 1 :=
  let main_v16 : IVec S_ 1 := andi main_v11 main_v15
  main_v16

def fn {F : FTy → Type} [FloatOps F] (main_arg0 : FVec F S1000000 .f32) (main_arg1 : FVec F S1x10 .f32) (main_arg2 : FVec F S1 .f32) (main_arg3 : FVec F S1x10 .f32) : IVec S_ 1 :=
  let main_cst : FVec F S_ .f32 := constant S_ .f32 0x00000000#32
  let main_v0 : FVec F S1000000 .f32 := broadcastInDim S1000000 ![] bcast_S_S1000000 main_cst
  let main_v1 : IVec S1000000 1 := cmpf .oge main_arg0 main_v0
  let main_c : IVec S_ 1 := constantI S_ 1 1#1
  let main_v2 : IVec S_ 1 := (fun x v => Host.reduce IntOp.andi x v reducesTo_S1000000_S_d0 h_S_) main_v1 main_c
  let main_cst_0 : FVec F S_ .f32 := constant S_ .f32 0x3F800000#32
  let main_v3 : FVec F S1000000 .f32 := broadcastInDim S1000000 ![] bcast_S_S1000000 main_cst_0
  let main_v4 : IVec S1000000 1 := cmpf .ole main_arg0 main_v3
  let main_c_1 : IVec S_ 1 := constantI S_ 1 1#1
  let main_v5 : IVec S_ 1 := (fun x v => Host.reduce IntOp.andi x v reducesTo_S1000000_S_d0 h_S_) main_v4 main_c_1
  let main_v6 : IVec S_ 1 := andi main_v2 main_v5
  let main_v7 : FVec F S1x10 .f32 := Host.absf main_arg1
  let main_cst_2 : FVec F S_ .f32 := constant S_ .f32 0x7F800000#32
  let main_v8 : FVec F S1x10 .f32 := broadcastInDim S1x10 ![] bcast_S_S1x10 main_cst_2
  let main_v9 : IVec S1x10 1 := cmpf .olt main_v7 main_v8
  let main_c_3 : IVec S_ 1 := constantI S_ 1 1#1
  let main_v10 : IVec S_ 1 := (fun x v => Host.reduce IntOp.andi x v reducesTo_S1x10_S_d0_1 h_S_) main_v9 main_c_3
  let main_v11 : IVec S_ 1 := andi main_v6 main_v10
  let main_v12 : FVec F S1x10 .f32 := Host.absf main_arg3
  let main_cst_4 : FVec F S_ .f32 := constant S_ .f32 0x7F800000#32
  let main_v13 : FVec F S1x10 .f32 := broadcastInDim S1x10 ![] bcast_S_S1x10 main_cst_4
  let main_v14 : IVec S1x10 1 := cmpf .olt main_v12 main_v13
  let main_c_5 : IVec S_ 1 := constantI S_ 1 1#1
  let main_v15 : IVec S_ 1 := (fun x v => Host.reduce IntOp.andi x v reducesTo_S1x10_S_d0_1 h_S_) main_v14 main_c_5
  fn_part1 (F := F) main_v11 main_v15
-- ==== Kernel.lean ====
abbrev S1000000 : Shape := ⟨1, ![1000000]⟩
abbrev S1x10 : Shape := ⟨2, ![1, 10]⟩
abbrev S1 : Shape := ⟨1, ![1]⟩
abbrev S176 : Shape := ⟨1, ![176]⟩
abbrev S160 : Shape := ⟨1, ![160]⟩
abbrev S_ : Shape := ⟨0, ![]⟩
abbrev S16 : Shape := ⟨1, ![16]⟩
abbrev S10 : Shape := ⟨1, ![10]⟩
abbrev S64 : Shape := ⟨1, ![64]⟩
abbrev S48 : Shape := ⟨1, ![48]⟩
abbrev S32 : Shape := ⟨1, ![32]⟩
abbrev S15616 : Shape := ⟨1, ![15616]⟩
abbrev S576 : Shape := ⟨1, ![576]⟩
abbrev S1000000x1 : Shape := ⟨2, ![1000000, 1]⟩

abbrev nBuf : Table → Nat
  | .hbm => 19
  | .local .scVector .vmem => 8
  | _ => 0

abbrev bufTy : (tb : Table) → Fin (nBuf tb) → BufTy
  | .hbm, ⟨0, _⟩ => ⟨S1000000, .f32⟩
  | .hbm, ⟨1, _⟩ => ⟨S1x10, .f32⟩
  | .hbm, ⟨2, _⟩ => ⟨S1, .f32⟩
  | .hbm, ⟨3, _⟩ => ⟨S1x10, .f32⟩
  | .hbm, ⟨4, _⟩ => ⟨S176, .i32⟩
  | .hbm, ⟨5, _⟩ => ⟨S176, .f32⟩
  | .hbm, ⟨6, _⟩ => ⟨S160, .f32⟩
  | .hbm, ⟨7, _⟩ => ⟨S_, .f32⟩
  | .hbm, ⟨8, _⟩ => ⟨S160, .f32⟩
  | .hbm, ⟨9, _⟩ => ⟨S160, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S176, .f32⟩
  | .hbm, ⟨15, _⟩ => ⟨S10, .f32⟩
  | .hbm, ⟨16, _⟩ => ⟨S10, .f32⟩
  | .hbm, ⟨17, _⟩ => ⟨S1000000, .f32⟩
  | .hbm, ⟨18, _⟩ => ⟨S1000000x1, .f32⟩
  | .local .scVector .vmem, ⟨0, _⟩ => ⟨S64, .f32⟩
  | .local .scVector .vmem, ⟨1, _⟩ => ⟨S48, .f32⟩
  | .local .scVector .vmem, ⟨2, _⟩ => ⟨S176, .f32⟩
  | .local .scVector .vmem, ⟨3, _⟩ => ⟨S32, .f32⟩
  | .local .scVector .vmem, ⟨4, _⟩ => ⟨S15616, .f32⟩
  | .local .scVector .vmem, ⟨5, _⟩ => ⟨S15616, .f32⟩
  | .local .scVector .vmem, ⟨6, _⟩ => ⟨S15616, .f32⟩
  | .local .scVector .vmem, ⟨7, _⟩ => ⟨S15616, .f32⟩
  | _, _ => ⟨S1000000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v7_scv : Ref sig .scVector := ⟨.hbm, 14, rfl⟩
abbrev main_v8_scv : Ref sig .scVector := ⟨.hbm, 15, rfl⟩
abbrev main_v9_scv : Ref sig .scVector := ⟨.hbm, 16, rfl⟩
abbrev main_arg2_scv : Ref sig .scVector := ⟨.hbm, 2, rfl⟩
abbrev main_arg0_scv : Ref sig .scVector := ⟨.hbm, 0, rfl⟩
abbrev main_v10_scv : Ref sig .scVector := ⟨.hbm, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31232_i32 : BitVec 32 := 31232#32
  let v2 : BitVec 32 := Scalar.muli v1 c31232_i32
  ![v2.toNat]

def k0_chk1 (v133 : IVec S16 32) : Prop :=
  (∀ a x, ((![v133] : Fin 1 → IVec S16 32) a x).toNat < S48.size a) ∧
  (∀ a x, ((![v133] : Fin 1 → IVec S16 32) a x).toNat < S32.size a)
theorem k0_idx1_inb : ∀ (v133 : IVec S16 32) (k0_hw1 : k0_chk1 v133), ∀ a x, ((![v133] : Fin 1 → IVec S16 32) a x).toNat < S48.size a := fun v133 k0_hw1 => k0_hw1.1
theorem k0_idx2_inb : ∀ (v133 : IVec S16 32) (k0_hw1 : k0_chk1 v133), ∀ a x, ((![v133] : Fin 1 → IVec S16 32) a x).toNat < S32.size a := fun v133 k0_hw1 => k0_hw1.2
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31232_i32 : BitVec 32 := 31232#32
  let v2 : BitVec 32 := Scalar.muli v1 c31232_i32
  ![v2.toNat]
def k0_off3 (i : grid0.Coords) (c15616_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31232_i32 : BitVec 32 := 31232#32
  let v2 : BitVec 32 := Scalar.muli v1 c31232_i32
  let v155 : BitVec 32 := Scalar.addi v2 c15616_i32
  ![v155.toNat]
@[reducible] def k0_t1_loop : Scf.Loop 32 :=
  let c0_i32_14 : BitVec 32 := 0#32
  let c976_i32 : BitVec 32 := 976#32
  let v158 : BitVec 32 := Scalar.addi c0_i32_14 c976_i32
  let c1_i32_15 : BitVec 32 := 1#32
  ⟨c0_i32_14, v158, c1_i32_15⟩
def k0_off4 (k0_t1 : Fin k0_t1_loop.trips) : Fin 1 → Nat :=
  let c0_i32_25 : BitVec 32 := 0#32
  let c0_i32_14 : BitVec 32 := 0#32
  let c1_i32_15 : BitVec 32 := 1#32
  let arg20 : BitVec 32 := Scf.iv c0_i32_14 c1_i32_15 k0_t1
  let c1_i32_24 : BitVec 32 := 1#32
  let v175 : BitVec 32 := Scalar.muli arg20 c1_i32_24
  let v176 : BitVec 32 := Scalar.addi c0_i32_25 v175
  let c16_i32_26 : BitVec 32 := 16#32
  let v177 : BitVec 32 := Scalar.muli v176 c16_i32_26
  let v178 : Index := Scalar.indexCast v177
  ![v178.toNat]

def k0_chk2 (v186 : IVec S16 32) : Prop :=
  (∀ a x, ((![v186] : Fin 1 → IVec S16 32) a x).toNat < S64.size a)
theorem k0_idx3_inb : ∀ (v186 : IVec S16 32) (k0_hw2 : k0_chk2 v186), ∀ a x, ((![v186] : Fin 1 → IVec S16 32) a x).toNat < S64.size a := fun v186 k0_hw2 => k0_hw2

def k0_chk3 (v190 : IVec S16 32) : Prop :=
  (∀ a x, ((![v190] : Fin 1 → IVec S16 32) a x).toNat < S64.size a)
theorem k0_idx4_inb : ∀ (v190 : IVec S16 32) (k0_hw3 : k0_chk3 v190), ∀ a x, ((![v190] : Fin 1 → IVec S16 32) a x).toNat < S64.size a := fun v190 k0_hw3 => k0_hw3

def k0_chk4 (v192 : IVec S16 32) : Prop :=
  (∀ a x, ((![v192] : Fin 1 → IVec S16 32) a x).toNat < S64.size a)
theorem k0_idx5_inb : ∀ (v192 : IVec S16 32) (k0_hw4 : k0_chk4 v192), ∀ a x, ((![v192] : Fin 1 → IVec S16 32) a x).toNat < S64.size a := fun v192 k0_hw4 => k0_hw4

def k0_chk5 (v194 : IVec S16 32) : Prop :=
  (∀ a x, ((![v194] : Fin 1 → IVec S16 32) a x).toNat < S64.size a)
theorem k0_idx6_inb : ∀ (v194 : IVec S16 32) (k0_hw5 : k0_chk5 v194), ∀ a x, ((![v194] : Fin 1 → IVec S16 32) a x).toNat < S64.size a := fun v194 k0_hw5 => k0_hw5
def k0_off5 (k0_t1 : Fin k0_t1_loop.trips) : Fin 1 → Nat :=
  let c0_i32_25 : BitVec 32 := 0#32
  let c0_i32_14 : BitVec 32 := 0#32
  let c1_i32_15 : BitVec 32 := 1#32
  let arg20 : BitVec 32 := Scf.iv c0_i32_14 c1_i32_15 k0_t1
  let c1_i32_24 : BitVec 32 := 1#32
  let v175 : BitVec 32 := Scalar.muli arg20 c1_i32_24
  let v176 : BitVec 32 := Scalar.addi c0_i32_25 v175
  let c16_i32_29 : BitVec 32 := 16#32
  let v202 : BitVec 32 := Scalar.muli v176 c16_i32_29
  let v203 : Index := Scalar.indexCast v202
  ![v203.toNat]
@[reducible] def k0_t2_loop : Scf.Loop 32 :=
  let c0_i32_18 : BitVec 32 := 0#32
  let c976_i32_19 : BitVec 32 := 976#32
  let v164 : BitVec 32 := Scalar.addi c0_i32_18 c976_i32_19
  let c1_i32_20 : BitVec 32 := 1#32
  ⟨c0_i32_18, v164, c1_i32_20⟩
def k0_off6 (k0_t2 : Fin k0_t2_loop.trips) : Fin 1 → Nat :=
  let c0_i32_25 : BitVec 32 := 0#32
  let c0_i32_18 : BitVec 32 := 0#32
  let c1_i32_20 : BitVec 32 := 1#32
  let arg20 : BitVec 32 := Scf.iv c0_i32_18 c1_i32_20 k0_t2
  let c1_i32_24 : BitVec 32 := 1#32
  let v175 : BitVec 32 := Scalar.muli arg20 c1_i32_24
  let v176 : BitVec 32 := Scalar.addi c0_i32_25 v175
  let c16_i32_26 : BitVec 32 := 16#32
  let v177 : BitVec 32 := Scalar.muli v176 c16_i32_26
  let v178 : Index := Scalar.indexCast v177
  ![v178.toNat]

def k0_chk6 (v186 : IVec S16 32) : Prop :=
  (∀ a x, ((![v186] : Fin 1 → IVec S16 32) a x).toNat < S64.size a)
theorem k0_idx7_inb : ∀ (v186 : IVec S16 32) (k0_hw6 : k0_chk6 v186), ∀ a x, ((![v186] : Fin 1 → IVec S16 32) a x).toNat < S64.size a := fun v186 k0_hw6 => k0_hw6

def k0_chk7 (v190 : IVec S16 32) : Prop :=
  (∀ a x, ((![v190] : Fin 1 → IVec S16 32) a x).toNat < S64.size a)
theorem k0_idx8_inb : ∀ (v190 : IVec S16 32) (k0_hw7 : k0_chk7 v190), ∀ a x, ((![v190] : Fin 1 → IVec S16 32) a x).toNat < S64.size a := fun v190 k0_hw7 => k0_hw7

def k0_chk8 (v192 : IVec S16 32) : Prop :=
  (∀ a x, ((![v192] : Fin 1 → IVec S16 32) a x).toNat < S64.size a)
theorem k0_idx9_inb : ∀ (v192 : IVec S16 32) (k0_hw8 : k0_chk8 v192), ∀ a x, ((![v192] : Fin 1 → IVec S16 32) a x).toNat < S64.size a := fun v192 k0_hw8 => k0_hw8

def k0_chk9 (v194 : IVec S16 32) : Prop :=
  (∀ a x, ((![v194] : Fin 1 → IVec S16 32) a x).toNat < S64.size a)
theorem k0_idx10_inb : ∀ (v194 : IVec S16 32) (k0_hw9 : k0_chk9 v194), ∀ a x, ((![v194] : Fin 1 → IVec S16 32) a x).toNat < S64.size a := fun v194 k0_hw9 => k0_hw9
def k0_off7 (k0_t2 : Fin k0_t2_loop.trips) : Fin 1 → Nat :=
  let c0_i32_25 : BitVec 32 := 0#32
  let c0_i32_18 : BitVec 32 := 0#32
  let c1_i32_20 : BitVec 32 := 1#32
  let arg20 : BitVec 32 := Scf.iv c0_i32_18 c1_i32_20 k0_t2
  let c1_i32_24 : BitVec 32 := 1#32
  let v175 : BitVec 32 := Scalar.muli arg20 c1_i32_24
  let v176 : BitVec 32 := Scalar.addi c0_i32_25 v175
  let c16_i32_29 : BitVec 32 := 16#32
  let v202 : BitVec 32 := Scalar.muli v176 c16_i32_29
  let v203 : Index := Scalar.indexCast v202
  ![v203.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v172 : BitVec 1 := Scalar.cmpi .eq v1 c31_i32
  let v173 : BitVec 32 := Scalar.extui v172
  let c0_i32_23 : BitVec 32 := 0#32
  let v174 : BitVec 1 := Scalar.cmpi .ne v173 c0_i32_23
  v174

@[reducible] def k0_t3_loop : Scf.Loop 32 :=
  let c0_i32_24 : BitVec 32 := 0#32
  let c36_i32 : BitVec 32 := 36#32
  let v175 : BitVec 32 := Scalar.addi c0_i32_24 c36_i32
  let c1_i32_25 : BitVec 32 := 1#32
  ⟨c0_i32_24, v175, c1_i32_25⟩
def k0_off8 (k0_t3 : Fin k0_t3_loop.trips) : Fin 1 → Nat :=
  let c0_i32_28 : BitVec 32 := 0#32
  let c0_i32_24 : BitVec 32 := 0#32
  let c1_i32_25 : BitVec 32 := 1#32
  let arg20 : BitVec 32 := Scf.iv c0_i32_24 c1_i32_25 k0_t3
  let c1_i32_27 : BitVec 32 := 1#32
  let v176 : BitVec 32 := Scalar.muli arg20 c1_i32_27
  let v177 : BitVec 32 := Scalar.addi c0_i32_28 v176
  let c16_i32_29 : BitVec 32 := 16#32
  let v178 : BitVec 32 := Scalar.muli v177 c16_i32_29
  let v179 : Index := Scalar.indexCast v178
  ![v179.toNat]

def k0_chk10 (i : grid0.Coords) (v187 : IVec S16 32) : Prop :=
  (∀ (k0_h1 : k0_cond1 i = 1#1), ∀ a x, ((![v187] : Fin 1 → IVec S16 32) a x).toNat < S64.size a)
theorem k0_idx11_inb : ∀ (i : grid0.Coords) (v187 : IVec S16 32) (k0_hw10 : k0_chk10 i v187), ∀ (k0_h1 : k0_cond1 i = 1#1), ∀ a x, ((![v187] : Fin 1 → IVec S16 32) a x).toNat < S64.size a := fun i v187 k0_hw10 k0_h1 => k0_hw10 k0_h1

def k0_chk11 (i : grid0.Coords) (v191 : IVec S16 32) : Prop :=
  (∀ (k0_h1 : k0_cond1 i = 1#1), ∀ a x, ((![v191] : Fin 1 → IVec S16 32) a x).toNat < S64.size a)
theorem k0_idx12_inb : ∀ (i : grid0.Coords) (v191 : IVec S16 32) (k0_hw11 : k0_chk11 i v191), ∀ (k0_h1 : k0_cond1 i = 1#1), ∀ a x, ((![v191] : Fin 1 → IVec S16 32) a x).toNat < S64.size a := fun i v191 k0_hw11 k0_h1 => k0_hw11 k0_h1

def k0_chk12 (i : grid0.Coords) (v193 : IVec S16 32) : Prop :=
  (∀ (k0_h1 : k0_cond1 i = 1#1), ∀ a x, ((![v193] : Fin 1 → IVec S16 32) a x).toNat < S64.size a)
theorem k0_idx13_inb : ∀ (i : grid0.Coords) (v193 : IVec S16 32) (k0_hw12 : k0_chk12 i v193), ∀ (k0_h1 : k0_cond1 i = 1#1), ∀ a x, ((![v193] : Fin 1 → IVec S16 32) a x).toNat < S64.size a := fun i v193 k0_hw12 k0_h1 => k0_hw12 k0_h1

def k0_chk13 (i : grid0.Coords) (v195 : IVec S16 32) : Prop :=
  (∀ (k0_h1 : k0_cond1 i = 1#1), ∀ a x, ((![v195] : Fin 1 → IVec S16 32) a x).toNat < S64.size a)
theorem k0_idx14_inb : ∀ (i : grid0.Coords) (v195 : IVec S16 32) (k0_hw13 : k0_chk13 i v195), ∀ (k0_h1 : k0_cond1 i = 1#1), ∀ a x, ((![v195] : Fin 1 → IVec S16 32) a x).toNat < S64.size a := fun i v195 k0_hw13 k0_h1 => k0_hw13 k0_h1
def k0_off9 (k0_t3 : Fin k0_t3_loop.trips) : Fin 1 → Nat :=
  let c0_i32_28 : BitVec 32 := 0#32
  let c0_i32_24 : BitVec 32 := 0#32
  let c1_i32_25 : BitVec 32 := 1#32
  let arg20 : BitVec 32 := Scf.iv c0_i32_24 c1_i32_25 k0_t3
  let c1_i32_27 : BitVec 32 := 1#32
  let v176 : BitVec 32 := Scalar.muli arg20 c1_i32_27
  let v177 : BitVec 32 := Scalar.addi c0_i32_28 v176
  let c16_i32_32 : BitVec 32 := 16#32
  let v203 : BitVec 32 := Scalar.muli v177 c16_i32_32
  let v204 : Index := Scalar.indexCast v203
  ![v204.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000 : Shape := ⟨1, ![1000000]⟩
abbrev S1x10 : Shape := ⟨2, ![1, 10]⟩
abbrev S1 : Shape := ⟨1, ![1]⟩
abbrev S_ : Shape := ⟨0, ![]⟩
abbrev S9 : Shape := ⟨1, ![9]⟩
abbrev S10 : Shape := ⟨1, ![10]⟩
abbrev S8 : Shape := ⟨1, ![8]⟩
abbrev S8x1 : Shape := ⟨2, ![8, 1]⟩
abbrev S8x10 : Shape := ⟨2, ![8, 10]⟩
abbrev S8x8 : Shape := ⟨2, ![8, 8]⟩
abbrev S8x18 : Shape := ⟨2, ![8, 18]⟩
abbrev S1x18 : Shape := ⟨2, ![1, 18]⟩
abbrev S1x1 : Shape := ⟨2, ![1, 1]⟩
abbrev S10x10 : Shape := ⟨2, ![10, 10]⟩
abbrev S1000000x1 : Shape := ⟨2, ![1000000, 1]⟩
abbrev S1000000x10 : Shape := ⟨2, ![1000000, 10]⟩
abbrev S10x1 : Shape := ⟨2, ![10, 1]⟩

abbrev nBuf : Space → Nat
  | .hbm => 497
  | .vmem => 0
  | .smem => 0
  | _ => 0

abbrev hbmTy0_0 (i : Nat) : BufTy := match i % 128 with
  | 0 => ⟨S1000000, .f32⟩
  | 1 => ⟨S1x10, .f32⟩
  | 2 => ⟨S1, .f32⟩
  | 3 => ⟨S1x10, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S9, .f32⟩
  | 12 => ⟨S_, .f32⟩
  | 13 => ⟨S9, .f32⟩
  | 14 => ⟨S9, .f32⟩
  | 15 => ⟨S1, .f32⟩
  | 16 => ⟨S_, .f32⟩
  | 17 => ⟨S9, .f32⟩
  | 18 => ⟨S9, .f32⟩
  | 19 => ⟨S9, .f32⟩
  | 20 => ⟨S9, .f32⟩
  | 21 => ⟨S1, .f32⟩
  | 22 => ⟨S9, .f32⟩
  | 23 => ⟨S9, .f32⟩
  | 24 => ⟨S9, .f32⟩
  | 25 => ⟨S1, .f32⟩
  | 26 => ⟨S10, .f32⟩
  | 27 => ⟨S9, .f32⟩
  | 28 => ⟨S9, .f32⟩
  | 29 => ⟨S9, .f32⟩
  | 30 => ⟨S8, .f32⟩
  | 31 => ⟨S8x1, .f32⟩
  | 32 => ⟨S8, .f32⟩
  | 33 => ⟨S8x1, .f32⟩
  | 34 => ⟨S8x10, .i32⟩
  | 35 => ⟨S8x10, .i32⟩
  | 36 => ⟨S8x10, .i1⟩
  | 37 => ⟨S_, .f32⟩
  | 38 => ⟨S8x1, .f32⟩
  | 39 => ⟨S8x1, .f32⟩
  | 40 => ⟨S_, .f32⟩
  | 41 => ⟨S_, .f32⟩
  | 42 => ⟨S8x10, .f32⟩
  | 43 => ⟨S8x10, .f32⟩
  | 44 => ⟨S8x10, .f32⟩
  | 45 => ⟨S_, .i32⟩
  | 46 => ⟨S8x10, .i32⟩
  | 47 => ⟨S8x10, .i32⟩
  | 48 => ⟨S8x10, .i1⟩
  | 49 => ⟨S_, .f32⟩
  | 50 => ⟨S8x1, .f32⟩
  | 51 => ⟨S8x1, .f32⟩
  | 52 => ⟨S_, .f32⟩
  | 53 => ⟨S8x1, .f32⟩
  | 54 => ⟨S8x1, .f32⟩
  | 55 => ⟨S8x1, .f32⟩
  | 56 => ⟨S_, .f32⟩
  | 57 => ⟨S_, .f32⟩
  | 58 => ⟨S8x10, .f32⟩
  | 59 => ⟨S8x10, .f32⟩
  | 60 => ⟨S8x10, .f32⟩
  | 61 => ⟨S8x10, .f32⟩
  | 62 => ⟨S_, .i32⟩
  | 63 => ⟨S8x10, .i32⟩
  | 64 => ⟨S8x10, .i32⟩
  | 65 => ⟨S8x10, .i1⟩
  | 66 => ⟨S_, .f32⟩
  | 67 => ⟨S8x1, .f32⟩
  | 68 => ⟨S8x1, .f32⟩
  | 69 => ⟨S_, .f32⟩
  | 70 => ⟨S_, .f32⟩
  | 71 => ⟨S8x10, .f32⟩
  | 72 => ⟨S8x10, .f32⟩
  | 73 => ⟨S8x10, .f32⟩
  | 74 => ⟨S8x10, .f32⟩
  | 75 => ⟨S8x8, .i32⟩
  | 76 => ⟨S8x8, .i32⟩
  | 77 => ⟨S8x8, .i1⟩
  | 78 => ⟨S8x1, .f32⟩
  | 79 => ⟨S_, .f32⟩
  | 80 => ⟨S8x1, .f32⟩
  | 81 => ⟨S8x1, .f32⟩
  | 82 => ⟨S_, .f32⟩
  | 83 => ⟨S_, .f32⟩
  | 84 => ⟨S8x8, .f32⟩
  | 85 => ⟨S8x8, .f32⟩
  | 86 => ⟨S8x8, .f32⟩
  | 87 => ⟨S_, .i32⟩
  | 88 => ⟨S8x8, .i32⟩
  | 89 => ⟨S8x8, .i32⟩
  | 90 => ⟨S8x8, .i1⟩
  | 91 => ⟨S_, .f32⟩
  | 92 => ⟨S8x1, .f32⟩
  | 93 => ⟨S8x1, .f32⟩
  | 94 => ⟨S_, .f32⟩
  | 95 => ⟨S_, .f32⟩
  | 96 => ⟨S8x8, .f32⟩
  | 97 => ⟨S8x8, .f32⟩
  | 98 => ⟨S8x8, .f32⟩
  | 99 => ⟨S8x8, .f32⟩
  | 100 => ⟨S_, .i32⟩
  | 101 => ⟨S8x8, .i32⟩
  | 102 => ⟨S8x8, .i32⟩
  | 103 => ⟨S8x8, .i1⟩
  | 104 => ⟨S_, .f32⟩
  | 105 => ⟨S8x1, .f32⟩
  | 106 => ⟨S8x1, .f32⟩
  | 107 => ⟨S_, .f32⟩
  | 108 => ⟨S_, .f32⟩
  | 109 => ⟨S8x8, .f32⟩
  | 110 => ⟨S8x8, .f32⟩
  | 111 => ⟨S8x8, .f32⟩
  | 112 => ⟨S8x8, .f32⟩
  | 113 => ⟨S8x18, .f32⟩
  | 114 => ⟨S8x18, .i32⟩
  | 115 => ⟨S1x18, .f32⟩
  | 116 => ⟨S1x1, .f32⟩
  | 117 => ⟨S1x18, .f32⟩
  | 118 => ⟨S1x18, .f32⟩
  | 119 => ⟨S_, .i32⟩
  | 120 => ⟨S8x18, .i32⟩
  | 121 => ⟨S8x18, .i1⟩
  | 122 => ⟨S8x1, .f32⟩
  | 123 => ⟨S8x18, .f32⟩
  | 124 => ⟨S8x18, .f32⟩
  | 125 => ⟨S8x18, .f32⟩
  | 126 => ⟨S8x18, .f32⟩
  | 127 => ⟨S8x18, .f32⟩
  | _ => ⟨S1000000, .f32⟩

abbrev hbmTy0_1 (i : Nat) : BufTy := match i % 128 with
  | 0 => ⟨S8x18, .f32⟩
  | 1 => ⟨S1x18, .f32⟩
  | 2 => ⟨S1x1, .f32⟩
  | 3 => ⟨S1x18, .f32⟩
  | 4 => ⟨S1x18, .f32⟩
  | 5 => ⟨S_, .i32⟩
  | 6 => ⟨S8x18, .i32⟩
  | 7 => ⟨S8x18, .i1⟩
  | 8 => ⟨S8x1, .f32⟩
  | 9 => ⟨S8x18, .f32⟩
  | 10 => ⟨S8x18, .f32⟩
  | 11 => ⟨S8x18, .f32⟩
  | 12 => ⟨S8x18, .f32⟩
  | 13 => ⟨S8x18, .f32⟩
  | 14 => ⟨S8x18, .f32⟩
  | 15 => ⟨S1x18, .f32⟩
  | 16 => ⟨S1x1, .f32⟩
  | 17 => ⟨S1x18, .f32⟩
  | 18 => ⟨S1x18, .f32⟩
  | 19 => ⟨S_, .i32⟩
  | 20 => ⟨S8x18, .i32⟩
  | 21 => ⟨S8x18, .i1⟩
  | 22 => ⟨S8x1, .f32⟩
  | 23 => ⟨S8x18, .f32⟩
  | 24 => ⟨S8x18, .f32⟩
  | 25 => ⟨S8x18, .f32⟩
  | 26 => ⟨S8x18, .f32⟩
  | 27 => ⟨S8x18, .f32⟩
  | 28 => ⟨S8x18, .f32⟩
  | 29 => ⟨S1x18, .f32⟩
  | 30 => ⟨S1x1, .f32⟩
  | 31 => ⟨S1x18, .f32⟩
  | 32 => ⟨S1x18, .f32⟩
  | 33 => ⟨S_, .i32⟩
  | 34 => ⟨S8x18, .i32⟩
  | 35 => ⟨S8x18, .i1⟩
  | 36 => ⟨S8x1, .f32⟩
  | 37 => ⟨S8x18, .f32⟩
  | 38 => ⟨S8x18, .f32⟩
  | 39 => ⟨S8x18, .f32⟩
  | 40 => ⟨S8x18, .f32⟩
  | 41 => ⟨S8x18, .f32⟩
  | 42 => ⟨S8x18, .f32⟩
  | 43 => ⟨S1x18, .f32⟩
  | 44 => ⟨S1x1, .f32⟩
  | 45 => ⟨S1x18, .f32⟩
  | 46 => ⟨S1x18, .f32⟩
  | 47 => ⟨S_, .i32⟩
  | 48 => ⟨S8x18, .i32⟩
  | 49 => ⟨S8x18, .i1⟩
  | 50 => ⟨S8x1, .f32⟩
  | 51 => ⟨S8x18, .f32⟩
  | 52 => ⟨S8x18, .f32⟩
  | 53 => ⟨S8x18, .f32⟩
  | 54 => ⟨S8x18, .f32⟩
  | 55 => ⟨S8x18, .f32⟩
  | 56 => ⟨S8x18, .f32⟩
  | 57 => ⟨S1x18, .f32⟩
  | 58 => ⟨S1x1, .f32⟩
  | 59 => ⟨S1x18, .f32⟩
  | 60 => ⟨S1x18, .f32⟩
  | 61 => ⟨S_, .i32⟩
  | 62 => ⟨S8x18, .i32⟩
  | 63 => ⟨S8x18, .i1⟩
  | 64 => ⟨S8x1, .f32⟩
  | 65 => ⟨S8x18, .f32⟩
  | 66 => ⟨S8x18, .f32⟩
  | 67 => ⟨S8x18, .f32⟩
  | 68 => ⟨S8x18, .f32⟩
  | 69 => ⟨S8x18, .f32⟩
  | 70 => ⟨S8x18, .f32⟩
  | 71 => ⟨S1x18, .f32⟩
  | 72 => ⟨S1x1, .f32⟩
  | 73 => ⟨S1x18, .f32⟩
  | 74 => ⟨S1x18, .f32⟩
  | 75 => ⟨S_, .i32⟩
  | 76 => ⟨S8x18, .i32⟩
  | 77 => ⟨S8x18, .i1⟩
  | 78 => ⟨S8x1, .f32⟩
  | 79 => ⟨S8x18, .f32⟩
  | 80 => ⟨S8x18, .f32⟩
  | 81 => ⟨S8x18, .f32⟩
  | 82 => ⟨S8x18, .f32⟩
  | 83 => ⟨S8x18, .f32⟩
  | 84 => ⟨S8x18, .f32⟩
  | 85 => ⟨S1x18, .f32⟩
  | 86 => ⟨S1x1, .f32⟩
  | 87 => ⟨S1x18, .f32⟩
  | 88 => ⟨S1x18, .f32⟩
  | 89 => ⟨S_, .i32⟩
  | 90 => ⟨S8x18, .i32⟩
  | 91 => ⟨S8x18, .i1⟩
  | 92 => ⟨S8x1, .f32⟩
  | 93 => ⟨S8x18, .f32⟩
  | 94 => ⟨S8x18, .f32⟩
  | 95 => ⟨S8x18, .f32⟩
  | 96 => ⟨S8x18, .f32⟩
  | 97 => ⟨S8x18, .f32⟩
  | 98 => ⟨S8x18, .f32⟩
  | 99 => ⟨S_, .f32⟩
  | 100 => ⟨S1x10, .f32⟩
  | 101 => ⟨S8x10, .f32⟩
  | 102 => ⟨S10x10, .f32⟩
  | 103 => ⟨S10, .i32⟩
  | 104 => ⟨S1x10, .i32⟩
  | 105 => ⟨S1, .f32⟩
  | 106 => ⟨S_, .f32⟩
  | 107 => ⟨S1000000, .f32⟩
  | 108 => ⟨S1000000, .i1⟩
  | 109 => ⟨S1, .f32⟩
  | 110 => ⟨S_, .f32⟩
  | 111 => ⟨S1000000, .f32⟩
  | 112 => ⟨S1000000, .i1⟩
  | 113 => ⟨S1x10, .f32⟩
  | 114 => ⟨S1000000x1, .f32⟩
  | 115 => ⟨S1000000x10, .f32⟩
  | 116 => ⟨S1000000x10, .f32⟩
  | 117 => ⟨S1000000x10, .i1⟩
  | 118 => ⟨S1000000x10, .i32⟩
  | 119 => ⟨S_, .i32⟩
  | 120 => ⟨S1000000, .i32⟩
  | 121 => ⟨S_, .i32⟩
  | 122 => ⟨S_, .i32⟩
  | 123 => ⟨S_, .i32⟩
  | 124 => ⟨S1000000, .i32⟩
  | 125 => ⟨S1000000, .i32⟩
  | 126 => ⟨S_, .i32⟩
  | 127 => ⟨S1000000, .i32⟩
  | _ => ⟨S1000000, .f32⟩

abbrev hbmTy0_2 (i : Nat) : BufTy := match i % 128 with
  | 0 => ⟨S1000000, .i32⟩
  | 1 => ⟨S_, .i32⟩
  | 2 => ⟨S1000000, .i32⟩
  | 3 => ⟨S1000000, .i32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000, .f32⟩
  | 22 => ⟨S1000000, .f32⟩
  | 23 => ⟨S1000000, .f32⟩
  | 24 => ⟨S1000000, .f32⟩
  | 25 => ⟨S1000000, .f32⟩
  | 26 => ⟨S1000000, .f32⟩
  | 27 => ⟨S1000000, .f32⟩
  | 28 => ⟨S1000000, .f32⟩
  | 29 => ⟨S1000000, .f32⟩
  | 30 => ⟨S1000000, .f32⟩
  | 31 => ⟨S1000000, .f32⟩
  | 32 => ⟨S1000000, .f32⟩
  | 33 => ⟨S1000000, .f32⟩
  | 34 => ⟨S_, .f32⟩
  | 35 => ⟨S1000000, .f32⟩
  | 36 => ⟨S1000000, .f32⟩
  | 37 => ⟨S1000000, .f32⟩
  | 38 => ⟨S1000000, .f32⟩
  | 39 => ⟨S1000000, .f32⟩
  | 40 => ⟨S1000000, .f32⟩
  | 41 => ⟨S1000000, .f32⟩
  | 42 => ⟨S1000000, .f32⟩
  | 43 => ⟨S1000000, .f32⟩
  | 44 => ⟨S_, .f32⟩
  | 45 => ⟨S1000000, .f32⟩
  | 46 => ⟨S1000000, .f32⟩
  | 47 => ⟨S1000000x1, .f32⟩
  | 48 => ⟨S_, .i32⟩
  | 49 => ⟨S1000000, .i32⟩
  | 50 => ⟨S1000000, .i32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x10, .f32⟩
  | 60 => ⟨S1000000x10, .f32⟩
  | 61 => ⟨S1000000x10, .f32⟩
  | 62 => ⟨S1000000x1, .f32⟩
  | 63 => ⟨S_, .i32⟩
  | 64 => ⟨S1000000, .i32⟩
  | 65 => ⟨S1000000, .i1⟩
  | 66 => ⟨S_, .i32⟩
  | 67 => ⟨S1000000, .i32⟩
  | 68 => ⟨S1000000, .i32⟩
  | 69 => ⟨S1000000, .i32⟩
  | 70 => ⟨S1000000x1, .i32⟩
  | 71 => ⟨S1000000x10, .f32⟩
  | 72 => ⟨S1000000x10, .f32⟩
  | 73 => ⟨S1000000x10, .f32⟩
  | 74 => ⟨S1000000x10, .f32⟩
  | 75 => ⟨S_, .i32⟩
  | 76 => ⟨S1000000, .i32⟩
  | 77 => ⟨S1000000, .i32⟩
  | 78 => ⟨S1000000x1, .i32⟩
  | 79 => ⟨S1000000x10, .i32⟩
  | 80 => ⟨S1000000x10, .i32⟩
  | 81 => ⟨S1000000x10, .i1⟩
  | 82 => ⟨S1000000x1, .f32⟩
  | 83 => ⟨S_, .f32⟩
  | 84 => ⟨S_, .f32⟩
  | 85 => ⟨S1000000x10, .f32⟩
  | 86 => ⟨S1000000x10, .f32⟩
  | 87 => ⟨S1000000x10, .f32⟩
  | 88 => ⟨S1000000x10, .f32⟩
  | 89 => ⟨S1000000x1, .i32⟩
  | 90 => ⟨S1000000x10, .i32⟩
  | 91 => ⟨S1000000x10, .i32⟩
  | 92 => ⟨S1000000x10, .i1⟩
  | 93 => ⟨S1000000x1, .f32⟩
  | 94 => ⟨S_, .f32⟩
  | 95 => ⟨S_, .f32⟩
  | 96 => ⟨S1000000x10, .f32⟩
  | 97 => ⟨S1000000x10, .f32⟩
  | 98 => ⟨S1000000x10, .f32⟩
  | 99 => ⟨S1000000x10, .f32⟩
  | 100 => ⟨S1, .f32⟩
  | 101 => ⟨S_, .f32⟩
  | 102 => ⟨S1, .f32⟩
  | 103 => ⟨S_, .f32⟩
  | 104 => ⟨S_, .f32⟩
  | 105 => ⟨S1, .f32⟩
  | 106 => ⟨S_, .f32⟩
  | 107 => ⟨S1000000, .f32⟩
  | 108 => ⟨S1000000, .f32⟩
  | 109 => ⟨S1000000, .f32⟩
  | 110 => ⟨S1000000, .f32⟩
  | 111 => ⟨S1000000, .f32⟩
  | 112 => ⟨S_, .f32⟩
  | 113 => ⟨S1000000, .f32⟩
  | 114 => ⟨S1000000, .f32⟩
  | 115 => ⟨S1000000, .f32⟩
  | 116 => ⟨S1000000, .f32⟩
  | 117 => ⟨S1000000, .f32⟩
  | 118 => ⟨S_, .f32⟩
  | 119 => ⟨S1000000, .f32⟩
  | 120 => ⟨S1000000, .f32⟩
  | 121 => ⟨S1000000x1, .f32⟩
  | 122 => ⟨S1x10, .f32⟩
  | 123 => ⟨S10, .f32⟩
  | 124 => ⟨S1x10, .f32⟩
  | 125 => ⟨S1000000x10, .f32⟩
  | 126 => ⟨S1000000x10, .f32⟩
  | 127 => ⟨S1000000x10, .f32⟩
  | _ => ⟨S1000000, .f32⟩

abbrev hbmTy0_3 (i : Nat) : BufTy := match i % 128 with
  | 0 => ⟨S1000000x1, .f32⟩
  | 1 => ⟨S1x10, .f32⟩
  | 2 => ⟨S10, .f32⟩
  | 3 => ⟨S1x10, .f32⟩
  | 4 => ⟨S1000000x10, .f32⟩
  | 5 => ⟨S1000000x10, .f32⟩
  | 6 => ⟨S1000000x10, .f32⟩
  | 7 => ⟨S1000000x10, .f32⟩
  | 8 => ⟨S1000000, .f32⟩
  | 9 => ⟨S1000000, .f32⟩
  | 10 => ⟨S_, .f32⟩
  | 11 => ⟨S1000000, .f32⟩
  | 12 => ⟨S1000000, .f32⟩
  | 13 => ⟨S_, .i32⟩
  | 14 => ⟨S1x10, .i32⟩
  | 15 => ⟨S1x10, .i1⟩
  | 16 => ⟨S1000000x1, .f32⟩
  | 17 => ⟨S_, .f32⟩
  | 18 => ⟨S_, .f32⟩
  | 19 => ⟨S1000000x10, .i1⟩
  | 20 => ⟨S1000000x10, .f32⟩
  | 21 => ⟨S1000000x10, .f32⟩
  | 22 => ⟨S1000000x10, .f32⟩
  | 23 => ⟨S1000000x10, .f32⟩
  | 24 => ⟨S1000000, .f32⟩
  | 25 => ⟨S1000000, .f32⟩
  | 26 => ⟨S_, .i32⟩
  | 27 => ⟨S1x10, .i32⟩
  | 28 => ⟨S1x10, .i1⟩
  | 29 => ⟨S1000000x1, .f32⟩
  | 30 => ⟨S_, .f32⟩
  | 31 => ⟨S_, .f32⟩
  | 32 => ⟨S1000000x10, .i1⟩
  | 33 => ⟨S1000000x10, .f32⟩
  | 34 => ⟨S1000000x10, .f32⟩
  | 35 => ⟨S1000000x10, .f32⟩
  | 36 => ⟨S1000000x10, .f32⟩
  | 37 => ⟨S1, .f32⟩
  | 38 => ⟨S_, .f32⟩
  | 39 => ⟨S1, .f32⟩
  | 40 => ⟨S_, .f32⟩
  | 41 => ⟨S_, .f32⟩
  | 42 => ⟨S1, .f32⟩
  | 43 => ⟨S_, .f32⟩
  | 44 => ⟨S1000000, .f32⟩
  | 45 => ⟨S1000000, .f32⟩
  | 46 => ⟨S1000000, .f32⟩
  | 47 => ⟨S1000000, .f32⟩
  | 48 => ⟨S_, .f32⟩
  | 49 => ⟨S1000000, .f32⟩
  | 50 => ⟨S1000000, .f32⟩
  | 51 => ⟨S1000000, .f32⟩
  | 52 => ⟨S1000000, .f32⟩
  | 53 => ⟨S_, .f32⟩
  | 54 => ⟨S1000000, .f32⟩
  | 55 => ⟨S1000000, .f32⟩
  | 56 => ⟨S1000000x1, .f32⟩
  | 57 => ⟨S1x10, .f32⟩
  | 58 => ⟨S10, .f32⟩
  | 59 => ⟨S1x10, .f32⟩
  | 60 => ⟨S1000000x10, .f32⟩
  | 61 => ⟨S1000000x10, .f32⟩
  | 62 => ⟨S1000000x10, .f32⟩
  | 63 => ⟨S1x1, .f32⟩
  | 64 => ⟨S_, .f32⟩
  | 65 => ⟨S1000000, .f32⟩
  | 66 => ⟨S1000000, .f32⟩
  | 67 => ⟨S1000000x1, .f32⟩
  | 68 => ⟨S1000000x10, .f32⟩
  | 69 => ⟨S1000000x10, .f32⟩
  | 70 => ⟨S1000000, .f32⟩
  | 71 => ⟨S1000000, .f32⟩
  | 72 => ⟨S1000000, .f32⟩
  | 73 => ⟨S_, .i32⟩
  | 74 => ⟨S1x10, .i32⟩
  | 75 => ⟨S1x10, .i1⟩
  | 76 => ⟨S1000000x1, .f32⟩
  | 77 => ⟨S_, .f32⟩
  | 78 => ⟨S_, .f32⟩
  | 79 => ⟨S1000000x10, .i1⟩
  | 80 => ⟨S1000000x10, .f32⟩
  | 81 => ⟨S1000000x10, .f32⟩
  | 82 => ⟨S1000000x10, .f32⟩
  | 83 => ⟨S1000000x10, .f32⟩
  | 84 => ⟨S1000000, .f32⟩
  | 85 => ⟨S1000000, .f32⟩
  | 86 => ⟨S_, .f32⟩
  | 87 => ⟨S1000000, .f32⟩
  | 88 => ⟨S1000000, .f32⟩
  | 89 => ⟨S_, .i32⟩
  | 90 => ⟨S1x10, .i32⟩
  | 91 => ⟨S1x10, .i1⟩
  | 92 => ⟨S1000000x1, .f32⟩
  | 93 => ⟨S_, .f32⟩
  | 94 => ⟨S_, .f32⟩
  | 95 => ⟨S1000000x10, .i1⟩
  | 96 => ⟨S1000000x10, .f32⟩
  | 97 => ⟨S1000000x10, .f32⟩
  | 98 => ⟨S1000000x10, .f32⟩
  | 99 => ⟨S1000000x10, .f32⟩
  | 100 => ⟨S1000000x1, .i1⟩
  | 101 => ⟨S1000000x1, .i1⟩
  | 102 => ⟨S1000000x10, .i1⟩
  | 103 => ⟨S1000000x10, .f32⟩
  | 104 => ⟨S1000000x10, .i1⟩
  | 105 => ⟨S1000000x10, .f32⟩
  | 106 => ⟨S1000000x10, .f32⟩
  | 107 => ⟨S1000000x10, .f32⟩
  | 108 => ⟨S10x1, .f32⟩
  | 109 => ⟨S1000000x1, .f32⟩
  | 110 => ⟨S1x1, .f32⟩
  | 111 => ⟨S1000000x1, .f32⟩
  | 112 => ⟨S1000000x1, .f32⟩
  | _ => ⟨S1000000, .f32⟩

abbrev hbmTy (i : Nat) : BufTy := match i / 128 with
  | 0 => hbmTy0_0 i
  | 1 => hbmTy0_1 i
  | 2 => hbmTy0_2 i
  | 3 => hbmTy0_3 i
  | _ => ⟨S1000000, .f32⟩

abbrev bufTy : (tb : Table) → Fin (tcTables nBuf tb) → BufTy
  | .hbm, ⟨i, _⟩ => hbmTy i
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_cst_2 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v13 : Ref sig .tc := ⟨.hbm, 44, rfl⟩
abbrev main_c : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_3 : Ref sig .tc := ⟨.hbm, 49, rfl⟩
abbrev main_v17 : Ref sig .tc := ⟨.hbm, 50, rfl⟩
abbrev main_v18 : Ref sig .tc := ⟨.hbm, 51, rfl⟩
abbrev main_cst_4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_5 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v22 : Ref sig .tc := ⟨.hbm, 60, rfl⟩
abbrev main_v23 : Ref sig .tc := ⟨.hbm, 61, rfl⟩
abbrev main_c_6 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_7 : Ref sig .tc := ⟨.hbm, 66, rfl⟩
abbrev main_v27 : Ref sig .tc := ⟨.hbm, 67, rfl⟩
abbrev main_v28 : Ref sig .tc := ⟨.hbm, 68, rfl⟩
abbrev main_cst_8 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_9 : Ref sig .tc := ⟨.hbm, 79, rfl⟩
abbrev main_v35 : Ref sig .tc := ⟨.hbm, 80, rfl⟩
abbrev main_v36 : Ref sig .tc := ⟨.hbm, 81, rfl⟩
abbrev main_cst_10 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_v37 : Ref sig .tc := ⟨.hbm, 86, rfl⟩
abbrev main_c_11 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_cst_12 : Ref sig .tc := ⟨.hbm, 91, rfl⟩
abbrev main_v41 : Ref sig .tc := ⟨.hbm, 92, rfl⟩
abbrev main_v42 : Ref sig .tc := ⟨.hbm, 93, rfl⟩
abbrev main_cst_13 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_v43 : Ref sig .tc := ⟨.hbm, 98, rfl⟩
abbrev main_v44 : Ref sig .tc := ⟨.hbm, 99, rfl⟩
abbrev main_c_14 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_cst_15 : Ref sig .tc := ⟨.hbm, 104, rfl⟩
abbrev main_v48 : Ref sig .tc := ⟨.hbm, 105, rfl⟩
abbrev main_v49 : Ref sig .tc := ⟨.hbm, 106, rfl⟩
abbrev main_cst_16 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_c_17 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_call7_v0 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_c_18 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_call8_v0 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_c_19 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_call9_v0 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_c_20 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_call10_v0 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_c_21 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_call11_v0 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_c_22 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_call12_v0 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_c_23 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_call13_v0 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_c_24 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_call14_v0 : Ref sig .tc := ⟨.hbm, 225, rfl⟩
abbrev main_v149 : Ref sig .tc := ⟨.hbm, 226, rfl⟩
abbrev main_cst_25 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_c_26 : Ref sig .tc := ⟨.hbm, 247, rfl⟩
abbrev main_v169 : Ref sig .tc := ⟨.hbm, 248, rfl⟩
abbrev main_c_27 : Ref sig .tc := ⟨.hbm, 249, rfl⟩
abbrev main_c_28 : Ref sig .tc := ⟨.hbm, 250, rfl⟩
abbrev main_call15_v0 : Ref sig .tc := ⟨.hbm, 251, rfl⟩
abbrev main_call15_v1 : Ref sig .tc := ⟨.hbm, 252, rfl⟩
abbrev main_call15_v2 : Ref sig .tc := ⟨.hbm, 253, rfl⟩
abbrev main_call15_v3 : Ref sig .tc := ⟨.hbm, 254, rfl⟩
abbrev main_call15_v4 : Ref sig .tc := ⟨.hbm, 255, rfl⟩
abbrev main_v170 : Ref sig .tc := ⟨.hbm, 256, rfl⟩
abbrev main_c_29 : Ref sig .tc := ⟨.hbm, 257, rfl⟩
abbrev main_v171 : Ref sig .tc := ⟨.hbm, 258, rfl⟩
abbrev main_v172 : Ref sig .tc := ⟨.hbm, 259, rfl⟩
abbrev main_c_30 : Ref sig .tc := ⟨.hbm, 260, rfl⟩
abbrev main_v173 : Ref sig .tc := ⟨.hbm, 261, rfl⟩
abbrev main_v174 : Ref sig .tc := ⟨.hbm, 262, rfl⟩
abbrev main_c_31 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_c_32 : Ref sig .tc := ⟨.hbm, 269, rfl⟩
abbrev main_v180 : Ref sig .tc := ⟨.hbm, 270, rfl⟩
abbrev main_v181 : Ref sig .tc := ⟨.hbm, 271, rfl⟩
abbrev main_c_33 : Ref sig .tc := ⟨.hbm, 272, rfl⟩
abbrev main_v182 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_cst_34 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_cst_35 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_c_36 : Ref sig .tc := ⟨.hbm, 304, rfl⟩
abbrev main_v211 : Ref sig .tc := ⟨.hbm, 305, rfl⟩
abbrev main_v212 : Ref sig .tc := ⟨.hbm, 306, rfl⟩
abbrev main_c_37 : Ref sig .tc := ⟨.hbm, 307, rfl⟩
abbrev main_v213 : Ref sig .tc := ⟨.hbm, 308, rfl⟩
abbrev main_v214 : Ref sig .tc := ⟨.hbm, 309, rfl⟩
abbrev main_c_38 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_v220 : Ref sig .tc := ⟨.hbm, 316, rfl⟩
abbrev main_v221 : Ref sig .tc := ⟨.hbm, 317, rfl⟩
abbrev main_v222 : Ref sig .tc := ⟨.hbm, 318, rfl⟩
abbrev main_c_39 : Ref sig .tc := ⟨.hbm, 319, rfl⟩
abbrev main_v223 : Ref sig .tc := ⟨.hbm, 320, rfl⟩
abbrev main_v224 : Ref sig .tc := ⟨.hbm, 321, rfl⟩
abbrev main_c_40 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_c_41 : Ref sig .tc := ⟨.hbm, 331, rfl⟩
abbrev main_v233 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_cst_42 : Ref sig .tc := ⟨.hbm, 339, rfl⟩
abbrev main_call16_v0 : Ref sig .tc := ⟨.hbm, 340, rfl⟩
abbrev main_call16_v1 : Ref sig .tc := ⟨.hbm, 341, rfl⟩
abbrev main_call16_v2 : Ref sig .tc := ⟨.hbm, 342, rfl⟩
abbrev main_v240 : Ref sig .tc := ⟨.hbm, 343, rfl⟩
abbrev main_v241 : Ref sig .tc := ⟨.hbm, 344, rfl⟩
abbrev main_v242 : Ref sig .tc := ⟨.hbm, 345, rfl⟩
abbrev main_v243 : Ref sig .tc := ⟨.hbm, 346, rfl⟩
abbrev main_v244 : Ref sig .tc := ⟨.hbm, 347, rfl⟩
abbrev main_v245 : Ref sig .tc := ⟨.hbm, 348, rfl⟩
abbrev main_v246 : Ref sig .tc := ⟨.hbm, 349, rfl⟩
abbrev main_cst_43 : Ref sig .tc := ⟨.hbm, 350, rfl⟩
abbrev main_call17_v0 : Ref sig .tc := ⟨.hbm, 351, rfl⟩
abbrev main_call17_v1 : Ref sig .tc := ⟨.hbm, 352, rfl⟩
abbrev main_call17_v2 : Ref sig .tc := ⟨.hbm, 353, rfl⟩
abbrev main_v247 : Ref sig .tc := ⟨.hbm, 354, rfl⟩
abbrev main_v248 : Ref sig .tc := ⟨.hbm, 355, rfl⟩
abbrev main_v249 : Ref sig .tc := ⟨.hbm, 356, rfl⟩
abbrev main_v250 : Ref sig .tc := ⟨.hbm, 357, rfl⟩
abbrev main_v251 : Ref sig .tc := ⟨.hbm, 358, rfl⟩
abbrev main_v252 : Ref sig .tc := ⟨.hbm, 359, rfl⟩
abbrev main_v253 : Ref sig .tc := ⟨.hbm, 360, rfl⟩
abbrev main_v254 : Ref sig .tc := ⟨.hbm, 361, rfl⟩
abbrev main_v255 : Ref sig .tc := ⟨.hbm, 362, rfl⟩
abbrev main_v256 : Ref sig .tc := ⟨.hbm, 363, rfl⟩
abbrev main_v257 : Ref sig .tc := ⟨.hbm, 364, rfl⟩
abbrev main_v258 : Ref sig .tc := ⟨.hbm, 365, rfl⟩
abbrev main_v259 : Ref sig .tc := ⟨.hbm, 366, rfl⟩
abbrev main_v260 : Ref sig .tc := ⟨.hbm, 367, rfl⟩
abbrev main_cst_44 : Ref sig .tc := ⟨.hbm, 368, rfl⟩
abbrev main_v261 : Ref sig .tc := ⟨.hbm, 369, rfl⟩
abbrev main_v262 : Ref sig .tc := ⟨.hbm, 370, rfl⟩
abbrev main_v263 : Ref sig .tc := ⟨.hbm, 371, rfl⟩
abbrev main_v264 : Ref sig .tc := ⟨.hbm, 372, rfl⟩
abbrev main_v265 : Ref sig .tc := ⟨.hbm, 373, rfl⟩
abbrev main_cst_45 : Ref sig .tc := ⟨.hbm, 374, rfl⟩
abbrev main_v266 : Ref sig .tc := ⟨.hbm, 375, rfl⟩
abbrev main_v267 : Ref sig .tc := ⟨.hbm, 376, rfl⟩
abbrev main_v268 : Ref sig .tc := ⟨.hbm, 377, rfl⟩
abbrev main_v269 : Ref sig .tc := ⟨.hbm, 378, rfl⟩
abbrev main_v270 : Ref sig .tc := ⟨.hbm, 379, rfl⟩
abbrev main_v271 : Ref sig .tc := ⟨.hbm, 380, rfl⟩
abbrev main_v272 : Ref sig .tc := ⟨.hbm, 381, rfl⟩
abbrev main_v273 : Ref sig .tc := ⟨.hbm, 382, rfl⟩
abbrev main_v274 : Ref sig .tc := ⟨.hbm, 383, rfl⟩
abbrev main_v275 : Ref sig .tc := ⟨.hbm, 384, rfl⟩
abbrev main_v276 : Ref sig .tc := ⟨.hbm, 385, rfl⟩
abbrev main_v277 : Ref sig .tc := ⟨.hbm, 386, rfl⟩
abbrev main_v278 : Ref sig .tc := ⟨.hbm, 387, rfl⟩
abbrev main_v279 : Ref sig .tc := ⟨.hbm, 388, rfl⟩
abbrev main_v280 : Ref sig .tc := ⟨.hbm, 389, rfl⟩
abbrev main_v281 : Ref sig .tc := ⟨.hbm, 390, rfl⟩
abbrev main_v282 : Ref sig .tc := ⟨.hbm, 391, rfl⟩
abbrev main_v283 : Ref sig .tc := ⟨.hbm, 392, rfl⟩
abbrev main_v284 : Ref sig .tc := ⟨.hbm, 393, rfl⟩
abbrev main_cst_46 : Ref sig .tc := ⟨.hbm, 394, rfl⟩
abbrev main_v285 : Ref sig .tc := ⟨.hbm, 395, rfl⟩
abbrev main_v286 : Ref sig .tc := ⟨.hbm, 396, rfl⟩
abbrev main_c_47 : Ref sig .tc := ⟨.hbm, 397, rfl⟩
abbrev main_v287 : Ref sig .tc := ⟨.hbm, 398, rfl⟩
abbrev main_v288 : Ref sig .tc := ⟨.hbm, 399, rfl⟩
abbrev main_v289 : Ref sig .tc := ⟨.hbm, 400, rfl⟩
abbrev main_cst_48 : Ref sig .tc := ⟨.hbm, 401, rfl⟩
abbrev main_call18_v0 : Ref sig .tc := ⟨.hbm, 402, rfl⟩
abbrev main_call18_v1 : Ref sig .tc := ⟨.hbm, 403, rfl⟩
abbrev main_call18_v2 : Ref sig .tc := ⟨.hbm, 404, rfl⟩
abbrev main_call18_v3 : Ref sig .tc := ⟨.hbm, 405, rfl⟩
abbrev main_v290 : Ref sig .tc := ⟨.hbm, 406, rfl⟩
abbrev main_v291 : Ref sig .tc := ⟨.hbm, 407, rfl⟩
abbrev main_v292 : Ref sig .tc := ⟨.hbm, 408, rfl⟩
abbrev main_v293 : Ref sig .tc := ⟨.hbm, 409, rfl⟩
abbrev main_c_49 : Ref sig .tc := ⟨.hbm, 410, rfl⟩
abbrev main_v294 : Ref sig .tc := ⟨.hbm, 411, rfl⟩
abbrev main_v295 : Ref sig .tc := ⟨.hbm, 412, rfl⟩
abbrev main_v296 : Ref sig .tc := ⟨.hbm, 413, rfl⟩
abbrev main_cst_50 : Ref sig .tc := ⟨.hbm, 414, rfl⟩
abbrev main_call19_v0 : Ref sig .tc := ⟨.hbm, 415, rfl⟩
abbrev main_call19_v1 : Ref sig .tc := ⟨.hbm, 416, rfl⟩
abbrev main_call19_v2 : Ref sig .tc := ⟨.hbm, 417, rfl⟩
abbrev main_call19_v3 : Ref sig .tc := ⟨.hbm, 418, rfl⟩
abbrev main_v297 : Ref sig .tc := ⟨.hbm, 419, rfl⟩
abbrev main_v298 : Ref sig .tc := ⟨.hbm, 420, rfl⟩
abbrev main_v299 : Ref sig .tc := ⟨.hbm, 421, rfl⟩
abbrev main_v300 : Ref sig .tc := ⟨.hbm, 422, rfl⟩
abbrev main_v301 : Ref sig .tc := ⟨.hbm, 423, rfl⟩
abbrev main_v302 : Ref sig .tc := ⟨.hbm, 424, rfl⟩
abbrev main_v303 : Ref sig .tc := ⟨.hbm, 425, rfl⟩
abbrev main_v304 : Ref sig .tc := ⟨.hbm, 426, rfl⟩
abbrev main_v305 : Ref sig .tc := ⟨.hbm, 427, rfl⟩
abbrev main_v306 : Ref sig .tc := ⟨.hbm, 428, rfl⟩
abbrev main_v307 : Ref sig .tc := ⟨.hbm, 429, rfl⟩
abbrev main_v308 : Ref sig .tc := ⟨.hbm, 430, rfl⟩
abbrev main_v309 : Ref sig .tc := ⟨.hbm, 431, rfl⟩
abbrev main_cst_51 : Ref sig .tc := ⟨.hbm, 432, rfl⟩
abbrev main_v310 : Ref sig .tc := ⟨.hbm, 433, rfl⟩
abbrev main_v311 : Ref sig .tc := ⟨.hbm, 434, rfl⟩
abbrev main_v312 : Ref sig .tc := ⟨.hbm, 435, rfl⟩
abbrev main_v313 : Ref sig .tc := ⟨.hbm, 436, rfl⟩
abbrev main_cst_52 : Ref sig .tc := ⟨.hbm, 437, rfl⟩
abbrev main_v314 : Ref sig .tc := ⟨.hbm, 438, rfl⟩
abbrev main_v315 : Ref sig .tc := ⟨.hbm, 439, rfl⟩
abbrev main_v316 : Ref sig .tc := ⟨.hbm, 440, rfl⟩
abbrev main_v317 : Ref sig .tc := ⟨.hbm, 441, rfl⟩
abbrev main_v318 : Ref sig .tc := ⟨.hbm, 442, rfl⟩
abbrev main_v319 : Ref sig .tc := ⟨.hbm, 443, rfl⟩
abbrev main_v320 : Ref sig .tc := ⟨.hbm, 444, rfl⟩
abbrev main_v321 : Ref sig .tc := ⟨.hbm, 445, rfl⟩
abbrev main_v322 : Ref sig .tc := ⟨.hbm, 446, rfl⟩
abbrev main_v323 : Ref sig .tc := ⟨.hbm, 447, rfl⟩
abbrev main_v324 : Ref sig .tc := ⟨.hbm, 448, rfl⟩
abbrev main_v325 : Ref sig .tc := ⟨.hbm, 449, rfl⟩
abbrev main_v326 : Ref sig .tc := ⟨.hbm, 450, rfl⟩
abbrev main_v327 : Ref sig .tc := ⟨.hbm, 451, rfl⟩
abbrev main_v328 : Ref sig .tc := ⟨.hbm, 452, rfl⟩
abbrev main_v329 : Ref sig .tc := ⟨.hbm, 453, rfl⟩
abbrev main_v330 : Ref sig .tc := ⟨.hbm, 454, rfl⟩
abbrev main_v331 : Ref sig .tc := ⟨.hbm, 455, rfl⟩
abbrev main_v332 : Ref sig .tc := ⟨.hbm, 456, rfl⟩
abbrev main_c_53 : Ref sig .tc := ⟨.hbm, 457, rfl⟩
abbrev main_v333 : Ref sig .tc := ⟨.hbm, 458, rfl⟩
abbrev main_v334 : Ref sig .tc := ⟨.hbm, 459, rfl⟩
abbrev main_v335 : Ref sig .tc := ⟨.hbm, 460, rfl⟩
abbrev main_cst_54 : Ref sig .tc := ⟨.hbm, 461, rfl⟩
abbrev main_call20_v0 : Ref sig .tc := ⟨.hbm, 462, rfl⟩
abbrev main_call20_v1 : Ref sig .tc := ⟨.hbm, 463, rfl⟩
abbrev main_call20_v2 : Ref sig .tc := ⟨.hbm, 464, rfl⟩
abbrev main_call20_v3 : Ref sig .tc := ⟨.hbm, 465, rfl⟩
abbrev main_v336 : Ref sig .tc := ⟨.hbm, 466, rfl⟩
abbrev main_v337 : Ref sig .tc := ⟨.hbm, 467, rfl⟩
abbrev main_v338 : Ref sig .tc := ⟨.hbm, 468, rfl⟩
abbrev main_v339 : Ref sig .tc := ⟨.hbm, 469, rfl⟩
abbrev main_cst_55 : Ref sig .tc := ⟨.hbm, 470, rfl⟩
abbrev main_v340 : Ref sig .tc := ⟨.hbm, 471, rfl⟩
abbrev main_v341 : Ref sig .tc := ⟨.hbm, 472, rfl⟩
abbrev main_c_56 : Ref sig .tc := ⟨.hbm, 473, rfl⟩
abbrev main_v342 : Ref sig .tc := ⟨.hbm, 474, rfl⟩
abbrev main_v343 : Ref sig .tc := ⟨.hbm, 475, rfl⟩
abbrev main_v344 : Ref sig .tc := ⟨.hbm, 476, rfl⟩
abbrev main_cst_57 : Ref sig .tc := ⟨.hbm, 477, rfl⟩
abbrev main_call21_v0 : Ref sig .tc := ⟨.hbm, 478, rfl⟩
abbrev main_call21_v1 : Ref sig .tc := ⟨.hbm, 479, rfl⟩
abbrev main_call21_v2 : Ref sig .tc := ⟨.hbm, 480, rfl⟩
abbrev main_call21_v3 : Ref sig .tc := ⟨.hbm, 481, rfl⟩
abbrev main_v345 : Ref sig .tc := ⟨.hbm, 482, rfl⟩
abbrev main_v346 : Ref sig .tc := ⟨.hbm, 483, rfl⟩
abbrev main_v347 : Ref sig .tc := ⟨.hbm, 484, rfl⟩
abbrev main_v348 : Ref sig .tc := ⟨.hbm, 485, rfl⟩
abbrev main_call22_v0 : Ref sig .tc := ⟨.hbm, 486, rfl⟩
abbrev main_v349 : Ref sig .tc := ⟨.hbm, 487, rfl⟩
abbrev main_call23_v0 : Ref sig .tc := ⟨.hbm, 488, rfl⟩
abbrev main_v350 : Ref sig .tc := ⟨.hbm, 489, rfl⟩
abbrev main_v351 : Ref sig .tc := ⟨.hbm, 490, rfl⟩
abbrev main_v352 : Ref sig .tc := ⟨.hbm, 491, rfl⟩
abbrev main_v353 : Ref sig .tc := ⟨.hbm, 492, rfl⟩
abbrev main_v354 : Ref sig .tc := ⟨.hbm, 493, rfl⟩
abbrev main_v355 : Ref sig .tc := ⟨.hbm, 494, rfl⟩
abbrev main_v356 : Ref sig .tc := ⟨.hbm, 495, rfl⟩
abbrev main_v357 : Ref sig .tc := ⟨.hbm, 496, rfl⟩

abbrev nD : Nat := 1
abbrev τ : Topo := Topo.v7x

variable {F : FTy → Type} [FloatOps F]
-- ==== Proof.Common.lean ====
/-
  The kernel as the launch sees it: its buffers and threads under short names, the ghost state of its transfers, and
  the shape of what the body holds. Shared by the run of the body (`Tile`) and by the launch (`Launch`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Spline

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

/-- The names of the program's functions. -/
abbrev ΛP : Labels := Pipeline.Sig Λ₀ (Fin 0) fun p => (pcfgs (F := F) p).Adm
/-- The program's SparseCore call. -/
abbrev K : SparseCore.Cfg τ sig (ΛP (F := F)) 1 := sc (F := F)
/-- The definitions of the program's functions. -/
abbrev D [FloatOps F] : Defs nD τ sig (Elt F) (ΛP (F := F)) := Pipeline.defs pcfgs defs₀
/-- The kernel's loops need no variant. -/
abbrev 𝒱₀ : Variants := Variants.none
/-- Nor do the program's. -/
abbrev 𝒱 : Variants := 𝒱₀.lift
/-- The variant a thread starts with. -/
abbrev v₀ : 𝒱.V := Sum.inl none

/-- The handshakes' rounds beside the counters of the kernel's own transfers. -/
abbrev UH : Type := URounds (GSem nD τ sig) ℕ
/-- The ghost state: the rounds and the counters. -/
abbrev UU : Type := UH × Counters

local notation "𝕄" => MT nD τ sig (HIx 1) (Elt F) ℕ UU ℕ

/-- The rounds as a part of the whole ghost state. -/
abbrev EH : Emb UH (MT nD τ sig (HIx 1) (Elt F) ℕ UU ℕ) := embL

/-! ## The kernel's buffers -/

/-- The packed table, the weights, the mean, the bias, the points and the result, as a tile addresses them. -/
abbrev fcM : Memref sig .scVector .hbm S176 .f32 := Memref.whole main_v7_scv
/-- The weights. -/
abbrev wM : Memref sig .scVector .hbm S10 .f32 := Memref.whole main_v8_scv
/-- The mean. -/
abbrev muM : Memref sig .scVector .hbm S10 .f32 := Memref.whole main_v9_scv
/-- The bias. -/
abbrev bM : Memref sig .scVector .hbm S1 .f32 := Memref.whole main_arg2_scv
/-- The points. -/
abbrev xM : Memref sig .scVector .hbm S1000000 .f32 := Memref.whole main_arg0_scv
/-- The result. -/
abbrev oM : Memref sig .scVector .hbm S1000000 .f32 := Memref.whole main_v10_scv
/-- A tile's scratch: the table of coefficients, the staged vectors, the packed table, the folded second derivatives,
    two buffers of points and two of results. -/
abbrev tabM : Memref sig .scVector .vmem S64 .f32 := Memref.whole cc0_scratch0
/-- The staged vectors. -/
abbrev stM : Memref sig .scVector .vmem S48 .f32 := Memref.whole cc0_scratch1
/-- The packed table in the tile. -/
abbrev fbM : Memref sig .scVector .vmem S176 .f32 := Memref.whole cc0_scratch2
/-- The folded second derivatives. -/
abbrev gM : Memref sig .scVector .vmem S32 .f32 := Memref.whole cc0_scratch3
/-- The first buffer of points. -/
abbrev x0M : Memref sig .scVector .vmem S15616 .f32 := Memref.whole cc0_scratch4
/-- The second buffer of points. -/
abbrev x1M : Memref sig .scVector .vmem S15616 .f32 := Memref.whole cc0_scratch5
/-- The first buffer of results. -/
abbrev o0M : Memref sig .scVector .vmem S15616 .f32 := Memref.whole cc0_scratch6
/-- The second buffer of results. -/
abbrev o1M : Memref sig .scVector .vmem S15616 .f32 := Memref.whole cc0_scratch7

/-- The tile at coordinates `L`: its SparseCore, its number there and its thread on device `d`. -/
abbrev cV (L : grid0.Coords) : Fin τ.nSC := (L 0).castLE hcore0
/-- The tile's number in its SparseCore. -/
abbrev jV (L : grid0.Coords) : Fin τ.nSub := (L 1).castLE hsub0
/-- The tile's thread on device `d`. -/
abbrev VT (d : Dev nD) (L : grid0.Coords) : Thread nD τ := V d (cV L) (jV L)

/-- The tile's two chunks of the result and the tail, as the body slices them. -/
abbrev oA (L : grid0.Coords) : Memref sig .scVector .hbm S15616 .f32 :=
  oM.slice (Rect.unit (s := S1000000) (k0_off3 L 0#32) S15616.size (k0_off3_inb L 0)) (fun _ => rfl)
/-- The second chunk. -/
abbrev oB (L : grid0.Coords) : Memref sig .scVector .hbm S15616 .f32 :=
  oM.slice (Rect.unit (s := S1000000) (k0_off3 L 15616#32) S15616.size (k0_off3_inb L 1)) (fun _ => rfl)
/-- The tail. -/
abbrev oC : Memref sig .scVector .hbm S576 .f32 :=
  oM.slice (Rect.unit (s := S1000000) ![999424] S576.size inb_S1000000_S576_999424) (fun _ => rfl)

/-- The counters of a tile's semaphores at zero. -/
abbrev cells0 (d : Dev nD) (L : grid0.Coords) : sProp 𝕄 :=
  iprop(semVal (VT d L, SemLoc.dma cc0_scratch8.sem) 0 ∗ semVal (VT d L, SemLoc.dma cc0_scratch9.sem) 0
    ∗ semVal (VT d L, SemLoc.dma cc0_scratch10.sem) 0 ∗ semVal (VT d L, SemLoc.dma cc0_scratch11.sem) 0
    ∗ semVal (VT d L, SemLoc.dma cc0_scoped0.sem) 0 ∗ semVal (VT d L, SemLoc.dma cc0_scoped1.sem) 0
    ∗ semVal (VT d L, SemLoc.dma cc0_scoped2.sem) 0 ∗ semVal (VT d L, SemLoc.dma cc0_scoped3.sem) 0
    ∗ semVal (VT d L, SemLoc.dma cc0_scoped4.sem) 0 ∗ semVal (VT d L, SemLoc.dma cc0_scoped5.sem) 0)

/-- A buffer held whole, its contents restated. -/
theorem pts_congr {ℓ : Loc nD τ sig} {q : PosShare TreeShare} {f g : Buf (Elt F) ℓ} (h : f = g) :
    (ℓ ↦{q} f : sProp 𝕄) ⊢ ℓ ↦{q} g := Entails.of_eq (by rw [h])

/-- A gather from a scratch buffer at the head of a program: holding the buffer, the program continues at what its
    contents read at the indices. -/
theorem wp_gather [FloatOps F] (thr : Thread nD τ) {s t : Shape} {e : EltTy} {α : Type} {Q : α → sProp 𝕄}
    {M : Memref sig thr.2.kind .vmem s e} {idxs : Fin s.rank → IVec t 32}
    {h : ∀ a x, (idxs a x).toNat < s.size a} {hl : M.view.Loads} {k : Vec F t e → Prog (TpuEff nD τ sig (Elt F) Λ₀ thr.2) α}
    {q : PosShare TreeShare} {f : Buf (Elt F) (M.view.loc thr)} :
    (M.view.loc thr ↦{q} f : sProp 𝕄)
      ⊢ iprop(((M.view.loc thr ↦{q} f)
          -∗ wp frame (wpE (defs₀ (F := F)) 𝒱₀ thr none) Set.univ (k (loadIdx (M.view.read (Elt F) f) idxs h)) Q)
        -∗ wp frame (wpE (defs₀ (F := F)) 𝒱₀ thr none) Set.univ (SparseCore.vectorLoadIdx M idxs h hl >>= k) Q) := by
  have e : (M.access (.whole s)).read (Elt F) f = M.view.read (Elt F) f := by
    funext x
    rw [View.read_apply, View.read_apply]
    show _root_.cast _ (f (M.view.emb ((Rect.whole s).emb x))) = _
    rw [Rect.emb_whole_apply]
  rw [← e]
  exact SparseCore.wp_vectorLoadIdx 𝒱₀ thr none Set.univ (base := M) (S := Finset.univ) (q := q) (Finset.subset_univ _)

end Cert.Proof.Spline

end
-- ==== Proof.Value.lean ====
/-
  What a tile computes, as pure functions of its inputs: the staged vectors, the folded second derivatives, the table of
  segment coefficients and the result at one point. Over any float values, so that one run of the kernel serves the
  certified program and its reading over the reals.
-/
module

public import proofs.«01_k».proof.Proof.Common

@[expose] public section

noncomputable section

namespace Cert.Proof.Spline

open Cert.KernelIdeal Cert.KernelIdeal.Gen
open Idealize.ShloMosaic

variable {F : FTy → Type} [FloatOps F]

/-- The coordinate `k` of a vector of `n` elements. -/
def at1 {n : ℕ} (k : ℕ) (h : k < n) : (⟨1, ![n]⟩ : Shape).Idx := fun a => ⟨k, by rw [Subsingleton.elim a 0]; exact h⟩

/-- The coordinate of `at1` is its number. -/
@[simp] theorem at1_val {n : ℕ} (k : ℕ) (h : k < n) (a : Fin 1) : (at1 k h a).val = k := rfl

/-- Every coordinate of a vector is `at1` of its number. -/
theorem eq_at1 {n : ℕ} (y : (⟨1, ![n]⟩ : Shape).Idx) : y = at1 (y 0).val (y 0).isLt := by
  funext a
  obtain rfl : a = 0 := Subsingleton.elim _ _
  rfl

/-- Coordinates of a vector with the same number are the same. -/
theorem idx1_ext {n : ℕ} {x y : (⟨1, ![n]⟩ : Shape).Idx} (h : (x 0).val = (y 0).val) : x = y := by
  funext a
  obtain rfl : a = 0 := Subsingleton.elim _ _
  exact Fin.ext h

/-- Sixteen consecutive elements of a vector, from element `o`. -/
def row {n : ℕ} (f : Vec F ⟨1, ![n]⟩ .f32) (o : ℕ) (h : o + 16 ≤ n) : Vec F S16 .f32 :=
  fun x => f (at1 (o + (x 0).val) (by have : (x 0).val < 16 := (x 0).isLt; omega))

/-- The zero the kernel fills its scratch with. -/
abbrev zf : Elt F .f32 := (k0_pay13 (F := F)) (at1 0 (by decide))

/-- The staged vectors: the weights, the mean and the bias, each at the head of a row of sixteen, zeros after them. -/
def staged (w mu : Vec F S10 .f32) (b : Vec F S1 .f32) : Vec F S48 .f32 := fun i =>
  if h : (i 0).val < 10 then w (at1 (i 0).val h)
  else if h : 16 ≤ (i 0).val ∧ (i 0).val < 26 then mu (at1 ((i 0).val - 16) (by omega))
  else if (i 0).val = 32 then b (at1 0 (by decide))
  else zf

/-- The folded second derivatives: the weighted sum of the ten rows of the packed table. -/
def folded (fc : Vec F S176 .f32) (w mu : Vec F S10 .f32) (b : Vec F S1 .f32) : FVec F S16 .f32 :=
  k0_pay15 (row (staged w mu b) 0 (by decide))
    (k0_pay14 k0_pay13 (row (staged w mu b) 0 (by decide)) (row fc 0 (by decide)) (row fc 16 (by decide)) (row fc 32 (by decide))
      (row fc 48 (by decide)) (row fc 64 (by decide)) (row fc 80 (by decide)) (row fc 96 (by decide)))
    (row fc 112 (by decide)) (row fc 128 (by decide)) (row fc 144 (by decide))

/-- The folded second derivatives with a row of zeros after them. -/
def padded (g : FVec F S16 .f32) : Vec F S32 .f32 := fun i =>
  if h : (i 0).val < 16 then g (at1 (i 0).val h) else zf

/-- The table of coefficients: four rows of sixteen, row `m` the coefficients of degree `m` of the segments' cubics. -/
def table (fc : Vec F S176 .f32) (w mu : Vec F S10 .f32) (b : Vec F S1 .f32) : Vec F S64 .f32 := fun i =>
  have st := staged w mu b
  have g := folded fc w mu b
  have c := row fc 160 (by decide)
  have w0 := row st 0 (by decide)
  have m0 := row st 16 (by decide)
  if h : (i 0).val < 16 then
    k0_pay20 w0 (row st 32 (by decide)) (k0_pay16 w0 m0) (k0_pay17 w0 m0) (k0_pay18 w0 m0) (at1 (i 0).val h)
  else if h : (i 0).val < 32 then
    k0_pay21 w0 g c (row st 1 (by decide)) (row (padded g) 1 (by decide)) (at1 ((i 0).val - 16) (by omega))
  else if h : (i 0).val < 48 then
    k0_pay22 g c (at1 ((i 0).val - 32) (by omega))
  else
    k0_pay23 g c (row (padded g) 1 (by decide)) (at1 ((i 0).val - 48) (by have : (i 0).val < 64 := (i 0).isLt; omega))

/-! ## The segment of a point -/

/-- A word kept between zero and eight is at most eight. -/
theorem clip_le (v : BitVec 32) : (IntOp.minsi (IntOp.maxsi v 0#32) 8#32).toNat ≤ 8 := by
  have h0 : (0 : ℤ) ≤ (IntOp.maxsi v 0#32).toInt := by
    unfold IntOp.maxsi
    split
    · rename_i h
      simp only [BitVec.slt, decide_eq_true_eq, BitVec.toInt_zero] at h
      exact h.le
    · decide
  unfold IntOp.minsi
  split
  · rename_i h
    simp only [BitVec.slt, decide_eq_true_eq] at h
    have h8 : (8#32 : BitVec 32).toInt = 8 := by decide
    rw [h8] at h
    generalize IntOp.maxsi v 0#32 = u at h0 h
    have hu := BitVec.toInt_eq_toNat_cond u
    have := u.isLt
    split at hu <;> omega
  · decide

/-- The segment number of a point. -/
def seg (x : Elt F .f32) : BitVec 32 := k0_pay2 (fun _ => x) (at1 0 (by decide))

/-- A point's segment number is at most 8. -/
theorem seg_le (x : Elt F .f32) : (seg x).toNat ≤ 8 := clip_le _

/-- The cubic of segment number `k` with coefficients `a`, `b`, `c`, `e` at a point. -/
def cubic (x : Elt F .f32) (k : BitVec 32) (a b c e : Elt F .f32) : Elt F .f32 :=
  k0_pay3 (fun _ => x) (fun _ => k) (fun _ => a) (fun _ => b) (fun _ => c) (fun _ => e) (at1 0 (by decide))

/-- The result at one point: the cubic of its segment, the coefficients read from the table. -/
def point (T : Vec F S64 .f32) (x : Elt F .f32) : Elt F .f32 :=
  cubic x (seg x) (T (at1 (seg x).toNat (by have := seg_le x; omega))) (T (at1 ((seg x).toNat + 16) (by have := seg_le x; omega)))
    (T (at1 ((seg x).toNat + 32) (by have := seg_le x; omega))) (T (at1 ((seg x).toNat + 48) (by have := seg_le x; omega)))

/-- A segment number moved to a later row of the table. -/
theorem seg_add (x : Elt F .f32) (o : ℕ) (ho : o ≤ 48) : (seg x + BitVec.ofNat 32 o).toNat = (seg x).toNat + o := by
  have := seg_le x
  rw [BitVec.toNat_add, BitVec.toNat_ofNat]
  omega

/-- The indices of a vector of segment numbers, moved to a later row, lie in the table. -/
theorem row_inb (k : IVec S16 32) (hk : ∀ x, (k x).toNat ≤ 8) (o : ℕ) (ho : o ≤ 48) (a : Fin 1) (x : S16.Idx) :
    ((![addi k (broadcast S16 (BitVec.ofNat 32 o))] : Fin 1 → IVec S16 32) a x).toNat < S64.size a := by
  obtain rfl : a = 0 := Subsingleton.elim _ _
  have := hk x
  show (k x + BitVec.ofNat 32 o).toNat < 64
  rw [BitVec.toNat_add, BitVec.toNat_ofNat]
  omega

/-- A segment number at most 8 is an index within the table. -/
theorem seg_inb (k : IVec S16 32) (hk : ∀ x, (k x).toNat ≤ 8) (a : Fin 1) (x : S16.Idx) :
    ((![k] : Fin 1 → IVec S16 32) a x).toNat < S64.size a := by
  obtain rfl : a = 0 := Subsingleton.elim _ _
  have := hk x
  show (k x).toNat < 64
  omega

/-- The segment numbers of sixteen points in the first chunk's loop are at most 8. -/
theorem pay2_le (v : Vec F S16 .f32) (x : S16.Idx) : (k0_pay2 v x).toNat ≤ 8 := clip_le _
/-- The same in the second chunk's loop. -/
theorem pay5_le (v : Vec F S16 .f32) (x : S16.Idx) : (k0_pay5 v x).toNat ≤ 8 := clip_le _
/-- The same in the tail's loop. -/
theorem pay8_le (v : Vec F S16 .f32) (x : S16.Idx) : (k0_pay8 v x).toNat ≤ 8 := clip_le _

/-- First chunk: the reads of the constant coefficients are within the table. -/
theorem chk2 (v : Vec F S16 .f32) : k0_chk2 (k0_pay2 v) := seg_inb _ (pay2_le v)
/-- First chunk: those of the linear coefficients. -/
theorem chk3 (v : Vec F S16 .f32) : k0_chk3 (addi (k0_pay2 v) k0_pay10) := row_inb _ (pay2_le v) 16 (by decide)
/-- First chunk: those of the quadratic coefficients. -/
theorem chk4 (v : Vec F S16 .f32) : k0_chk4 (addi (k0_pay2 v) k0_pay11) := row_inb _ (pay2_le v) 32 (by decide)
/-- First chunk: those of the cubic coefficients. -/
theorem chk5 (v : Vec F S16 .f32) : k0_chk5 (addi (k0_pay2 v) k0_pay12) := row_inb _ (pay2_le v) 48 (by decide)
/-- Second chunk: the reads of the constant coefficients are within the table. -/
theorem chk6 (v : Vec F S16 .f32) : k0_chk6 (k0_pay5 v) := seg_inb _ (pay5_le v)
/-- Second chunk: those of the linear coefficients. -/
theorem chk7 (v : Vec F S16 .f32) : k0_chk7 (addi (k0_pay5 v) k0_pay10) := row_inb _ (pay5_le v) 16 (by decide)
/-- Second chunk: those of the quadratic coefficients. -/
theorem chk8 (v : Vec F S16 .f32) : k0_chk8 (addi (k0_pay5 v) k0_pay11) := row_inb _ (pay5_le v) 32 (by decide)
/-- Second chunk: those of the cubic coefficients. -/
theorem chk9 (v : Vec F S16 .f32) : k0_chk9 (addi (k0_pay5 v) k0_pay12) := row_inb _ (pay5_le v) 48 (by decide)
/-- Tail: the reads of the constant coefficients are within the table. -/
theorem chk10 (L : grid0.Coords) (v : Vec F S16 .f32) : k0_chk10 L (k0_pay8 v) := fun _ => seg_inb _ (pay8_le v)
/-- Tail: those of the linear coefficients. -/
theorem chk11 (L : grid0.Coords) (v : Vec F S16 .f32) : k0_chk11 L (addi (k0_pay8 v) k0_pay10) :=
  fun _ => row_inb _ (pay8_le v) 16 (by decide)
/-- Tail: those of the quadratic coefficients. -/
theorem chk12 (L : grid0.Coords) (v : Vec F S16 .f32) : k0_chk12 L (addi (k0_pay8 v) k0_pay11) :=
  fun _ => row_inb _ (pay8_le v) 32 (by decide)
/-- Tail: those of the cubic coefficients. -/
theorem chk13 (L : grid0.Coords) (v : Vec F S16 .f32) : k0_chk13 L (addi (k0_pay8 v) k0_pay12) :=
  fun _ => row_inb _ (pay8_le v) 48 (by decide)

/-- Sixteen points at once: each lane of what a trip of a loop stores is the result at that lane's point. -/
theorem trip_lane (T : Vec F S64 .f32) (v : Vec F S16 .f32) (x : S16.Idx)
    (h0 : ∀ a x, ((![k0_pay2 v] : Fin 1 → IVec S16 32) a x).toNat < S64.size a)
    (h1 : ∀ a x, ((![addi (k0_pay2 v) k0_pay10] : Fin 1 → IVec S16 32) a x).toNat < S64.size a)
    (h2 : ∀ a x, ((![addi (k0_pay2 v) k0_pay11] : Fin 1 → IVec S16 32) a x).toNat < S64.size a)
    (h3 : ∀ a x, ((![addi (k0_pay2 v) k0_pay12] : Fin 1 → IVec S16 32) a x).toNat < S64.size a) :
    k0_pay3 v (k0_pay2 v) (loadIdx T ![k0_pay2 v] h0) (loadIdx T ![addi (k0_pay2 v) k0_pay10] h1)
      (loadIdx T ![addi (k0_pay2 v) k0_pay11] h2) (loadIdx T ![addi (k0_pay2 v) k0_pay12] h3) x = point T (v x) := by
  have e : ∀ (o : ℕ) (ho : o ≤ 48) (k : IVec S16 32) (hk : k x = seg (v x) + BitVec.ofNat 32 o)
      (h : ∀ a x, ((![k] : Fin 1 → IVec S16 32) a x).toNat < S64.size a),
      loadIdx T ![k] h x = T (at1 ((seg (v x)).toNat + o) (by have := seg_le (v x); omega)) := by
    intro o ho k hk h
    refine congrArg T (idx1_ext ?_)
    show (k x).toNat = _
    rw [hk, seg_add _ _ ho]
    rfl
  have e0 : loadIdx T ![k0_pay2 v] h0 x = T (at1 (seg (v x)).toNat (by have := seg_le (v x); omega)) :=
    congrArg T (idx1_ext rfl)
  show cubic (v x) (seg (v x)) _ _ _ _ = _
  unfold point
  rw [e0, e 16 (by decide) _ rfl, e 32 (by decide) _ rfl, e 48 (by decide) _ rfl]

/-- The whole result: the value at each point. -/
def result {n : ℕ} (T : Vec F S64 .f32) (x : Vec F ⟨1, ![n]⟩ .f32) : Vec F ⟨1, ![n]⟩ .f32 := fun i => point T (x i)

end Cert.Proof.Spline

end
-- ==== Proof.Contents.lean ====
/-
  What the tile's scratch holds once its staging is done, restated from the stores and copies that filled it to the pure
  functions of `Value`.
-/
module

public import proofs.«01_k».proof.Proof.Value

@[expose] public section

noncomputable section

namespace Cert.Proof.Spline

open Cert.KernelIdeal Cert.KernelIdeal.Gen
open Idealize.ShloMosaic

variable {F : FTy → Type} [FloatOps F]

/-- Sixteen elements loaded from contents `f` of a whole buffer are a row of `f`. -/
theorem readAt_st (f : Vec F S48 .f32) (o : ℕ) (h : o + 16 ≤ 48) (hi) :
    View.readAt (Elt F) stM.view (Rect.unit (s := S48) ![o] S16.size hi).toLoadRect f = row f o h := by
  funext x
  refine congrArg f (idx1_ext ?_)
  show o + 1 * (x 0).val = o + (x 0).val
  rw [Nat.one_mul]

/-- Sixteen elements loaded from the packed table are a row of it. -/
theorem readAt_fb (f : Vec F S176 .f32) (o : ℕ) (h : o + 16 ≤ 176) (hi) :
    View.readAt (Elt F) fbM.view (Rect.unit (s := S176) ![o] S16.size hi).toLoadRect f = row f o h := by
  funext x
  refine congrArg f (idx1_ext ?_)
  show o + 1 * (x 0).val = o + (x 0).val
  rw [Nat.one_mul]

/-- The packed table copied whole. -/
theorem fb_write (s : Vec F S176 .f32) (FC : Vec F S176 .f32) :
    View.write (Elt F) fbM.view s (ReadAs.same.apply (View.read (Elt F) fcM.view FC)) Finset.univ = FC := by
  exact View.write_whole_univ _ _ _

/-- What is stored into the staged vectors, the newest first: the copies of the three vectors over the zeros. -/
abbrev stPieces (WV MU : Vec F S10 .f32) (BV : Vec F S1 .f32) : List (View.Piece (Elt F) S48 .f32) :=
  [⟨Rect.unit ![32] S1.size inb_S48_S1_32, ReadAs.same.apply (View.read (Elt F) bM.view BV)⟩,
    ⟨Rect.unit ![16] S10.size inb_S48_S10_16, ReadAs.same.apply (View.read (Elt F) muM.view MU)⟩,
    ⟨Rect.unit ![0] S10.size inb_S48_S10_0, ReadAs.same.apply (View.read (Elt F) wM.view WV)⟩,
    ⟨Rect.unit ![32] S16.size inb_S48_S16_32, k0_pay13⟩,
    ⟨Rect.unit ![16] S16.size inb_S48_S16_16, k0_pay13⟩, ⟨Rect.unit ![0] S16.size inb_S48_S16_0, k0_pay13⟩]

/-- The newest store of a vector, read at a place it covers. -/
theorem read_hit {sig' : RefSig} {κ : Kind} {m : Space} {n : ℕ} (v : View sig' κ m ⟨1, ![n]⟩ .f32) (f : v.ty.Contents (Elt F)) (o l : ℕ) (hi)
    (w : Vec F ⟨1, ![l]⟩ .f32) (P : List (View.Piece (Elt F) ⟨1, ![n]⟩ .f32)) (y : (⟨1, ![n]⟩ : Shape).Idx)
    (h : o ≤ (y 0).val ∧ (y 0).val < o + l) :
    v.read (Elt F) (v.writes (Elt F) f (⟨Rect.unit (s := ⟨1, ![n]⟩) ![o] ![l] hi, w⟩ :: P)) y
      = w (at1 ((y 0).val - o) (by omega)) :=
  View.read_writes_cons_hit_of_coords v f (Rect.unit (s := ⟨1, ![n]⟩) ![o] ![l] hi) w P (at1 ((y 0).val - o) (by omega)) y
    (by
      intro a
      obtain rfl : a = 0 := Subsingleton.elim _ _
      show (y 0).val = o + 1 * ((y 0).val - o)
      omega)

/-- The newest store of a vector, read at a place it does not cover. -/
theorem read_miss {sig' : RefSig} {κ : Kind} {m : Space} {n : ℕ} (v : View sig' κ m ⟨1, ![n]⟩ .f32) (f : v.ty.Contents (Elt F)) (o l : ℕ) (hi)
    (w : Vec F ⟨1, ![l]⟩ .f32) (P : List (View.Piece (Elt F) ⟨1, ![n]⟩ .f32)) (y : (⟨1, ![n]⟩ : Shape).Idx)
    (h : (y 0).val < o ∨ o + l ≤ (y 0).val) :
    v.read (Elt F) (v.writes (Elt F) f (⟨Rect.unit (s := ⟨1, ![n]⟩) ![o] ![l] hi, w⟩ :: P)) y
      = v.read (Elt F) (v.writes (Elt F) f P) y :=
  View.read_writes_cons_miss_of_axis v f ⟨Rect.unit (s := ⟨1, ![n]⟩) ![o] ![l] hi, w⟩ P y (0 : Fin 1) o l rfl rfl rfl h

/-- The staged vectors. -/
theorem st_writes (s : Vec F S48 .f32) (WV MU : Vec F S10 .f32) (BV : Vec F S1 .f32) :
    stM.view.writes (Elt F) s (stPieces WV MU BV) = staged WV MU BV := by
  funext y
  refine (?_ : stM.view.read (Elt F) (stM.view.writes (Elt F) s (stPieces WV MU BV)) y = _)
  have hy : (y 0).val < 48 := (y 0).isLt
  unfold staged stPieces
  by_cases h32 : (y 0).val = 32
  · rw [dif_neg (by omega), dif_neg (by omega), if_pos h32]
    refine (read_hit stM.view s 32 1 _ _ _ y (by omega)).trans ?_
    exact congrArg BV (idx1_ext (by show (y 0).val - 32 = 0; omega))
  refine (read_miss stM.view s 32 1 _ _ _ y (by omega)).trans ?_
  by_cases h16 : 16 ≤ (y 0).val ∧ (y 0).val < 26
  · rw [dif_neg (by omega), dif_pos h16]
    exact read_hit stM.view s 16 10 _ _ _ y (by omega)
  refine (read_miss stM.view s 16 10 _ _ _ y (by omega)).trans ?_
  by_cases h0 : (y 0).val < 10
  · rw [dif_pos h0]
    exact read_hit stM.view s 0 10 _ _ _ y (by omega)
  refine (read_miss stM.view s 0 10 _ _ _ y (by omega)).trans ?_
  rw [dif_neg h0, dif_neg h16, if_neg h32]
  by_cases g32 : 32 ≤ (y 0).val
  · exact read_hit stM.view s 32 16 _ _ _ y (by omega)
  refine (read_miss stM.view s 32 16 _ _ _ y (by omega)).trans ?_
  by_cases g16 : 16 ≤ (y 0).val
  · exact read_hit stM.view s 16 16 _ _ _ y (by omega)
  refine (read_miss stM.view s 16 16 _ _ _ y (by omega)).trans ?_
  exact read_hit stM.view s 0 16 _ _ _ y (by omega)

/-- A row of the staged vectors, as the loads read it back from the stores. -/
theorem st_row (WV MU : Vec F S10 .f32) (BV : Vec F S1 .f32) (o : ℕ) (h : o + 16 ≤ 48) (hi) :
    stM.view.readCov (stPieces WV MU BV) (Rect.unit (s := S48) ![o] S16.size hi).toLoadRect = row (staged WV MU BV) o h := by
  rw [← readAt_st (staged WV MU BV) o h hi, ← st_writes stM.view.junk WV MU BV]
  rfl

/-- The folded second derivatives and the zeros after them. -/
theorem g_writes (s : Vec F S32 .f32) (g : FVec F S16 .f32) :
    gM.view.writes (Elt F) s
      [⟨Rect.unit ![0] S16.size inb_S32_S16_0, g⟩, ⟨Rect.unit ![16] S16.size inb_S32_S16_16, k0_pay13⟩] = padded g := by
  funext y
  refine (?_ : gM.view.read (Elt F) (gM.view.writes (Elt F) s [_, _]) y = _)
  have hy : (y 0).val < 32 := (y 0).isLt
  unfold padded
  by_cases h : (y 0).val < 16
  · rw [dif_pos h]
    exact read_hit gM.view s 0 16 _ _ _ y (by omega)
  rw [dif_neg h]
  refine (read_miss gM.view s 0 16 _ _ _ y (by omega)).trans ?_
  exact read_hit gM.view s 16 16 _ _ _ y (by omega)

/-- Four stored rows of the table, read at one place. -/
theorem tab_writes (s : Vec F S64 .f32) (p0 p1 p2 p3 : FVec F S16 .f32) (y : S64.Idx) :
    tabM.view.writes (Elt F) s
      [⟨Rect.unit ![48] S16.size inb_S64_S16_48, p3⟩, ⟨Rect.unit ![32] S16.size inb_S64_S16_32, p2⟩,
        ⟨Rect.unit ![16] S16.size inb_S64_S16_16, p1⟩, ⟨Rect.unit ![0] S16.size inb_S64_S16_0, p0⟩] y
      = if h : (y 0).val < 16 then p0 (at1 (y 0).val h)
        else if h : (y 0).val < 32 then p1 (at1 ((y 0).val - 16) (by omega))
        else if h : (y 0).val < 48 then p2 (at1 ((y 0).val - 32) (by omega))
        else p3 (at1 ((y 0).val - 48) (by have : (y 0).val < 64 := (y 0).isLt; omega)) := by
  refine (?_ : tabM.view.read (Elt F) (tabM.view.writes (Elt F) s [_, _, _, _]) y = _)
  have hy : (y 0).val < 64 := (y 0).isLt
  by_cases h3 : 48 ≤ (y 0).val
  · rw [dif_neg (by omega), dif_neg (by omega), dif_neg (by omega)]
    exact read_hit tabM.view s 48 16 _ _ _ y (by omega)
  refine (read_miss tabM.view s 48 16 _ _ _ y (by omega)).trans ?_
  by_cases h2 : 32 ≤ (y 0).val
  · rw [dif_neg (by omega), dif_neg (by omega), dif_pos (by omega)]
    exact read_hit tabM.view s 32 16 _ _ _ y (by omega)
  refine (read_miss tabM.view s 32 16 _ _ _ y (by omega)).trans ?_
  by_cases h1 : 16 ≤ (y 0).val
  · rw [dif_neg (by omega), dif_pos (by omega)]
    exact read_hit tabM.view s 16 16 _ _ _ y (by omega)
  refine (read_miss tabM.view s 16 16 _ _ _ y (by omega)).trans ?_
  rw [dif_pos (by omega)]
  exact read_hit tabM.view s 0 16 _ _ _ y (by omega)

/-- The gather at the lanes one further on is the row that starts one element later. -/
theorem gather_succ {n : ℕ} (f : Vec F ⟨1, ![n]⟩ .f32) (h : 17 ≤ n) (hi) :
    loadIdx f ![k0_pay19] hi = row f 1 (by omega) := by
  funext x
  refine congrArg f (idx1_ext ?_)
  have hx : (x 0).val < 16 := (x 0).isLt
  show (BitVec.ofNat 32 (0 * 16 + (x 0).val) + 1#32).toNat = 1 + (x 0).val
  rw [BitVec.toNat_add, BitVec.toNat_ofNat, BitVec.toNat_ofNat]
  omega

/-- The indexed read of the staged vectors at the numbers 1 to 16 is the row that starts at 1: the next weight in each lane. -/
theorem gather_st (f : Vec F S48 .f32) (hi) :
    loadIdx (View.read (Elt F) stM.view f) ![k0_pay19] hi = row f 1 (by decide) := gather_succ f (by decide) hi

/-- The indexed read of the folded second derivatives at the numbers 1 to 16 is the row that starts at 1. -/
theorem gather_g (f : Vec F S32 .f32) (hi) :
    loadIdx (View.read (Elt F) gM.view f) ![k0_pay19] hi = row f 1 (by decide) := gather_succ f (by decide) hi

/-! ## A chunk of the points and a trip of a loop -/

/-- The first point of a tile's range: the tiles take consecutive ranges of 31232 points. -/
def base (L : grid0.Coords) : ℕ := 62464 * (L 1).val + 31232 * (L 0).val

/-- A chunk of a tile lies within the million points. -/
theorem base_inb (L : grid0.Coords) (r : Fin 2) : base L + 15616 * r.val + 15616 ≤ 1000000 := by
  have h1 : (L 1).val < 16 := (L 1).isLt
  have h0 : (L 0).val < 2 := (L 0).isLt
  unfold base
  omega

/-- Consecutive elements of a vector, from element `o`. -/
def chunk {n m : ℕ} (f : Vec F ⟨1, ![n]⟩ .f32) (o : ℕ) (h : o + m ≤ n) : Vec F ⟨1, ![m]⟩ .f32 :=
  fun y => f (at1 (o + (y 0).val) (by have : (y 0).val < m := (y 0).isLt; omega))

/-- A slice of the points reads a chunk of them. -/
theorem read_slice {m : ℕ} (X : Vec F S1000000 .f32) (o' : Fin 1 → ℕ) (o : ℕ) (ho : o' = ![o]) (h : o + m ≤ 1000000) (hi) (hu) :
    View.read (Elt F) (xM.slice (Rect.unit (s := S1000000) o' ![m] hi) hu).view X = chunk X o h := by
  subst ho
  funext y
  refine congrArg X (idx1_ext ?_)
  show o + 1 * (y 0).val = o + (y 0).val
  rw [Nat.one_mul]

/-- The points of a trip: sixteen consecutive ones. -/
theorem readAt_x0 (x : Vec F S15616 .f32) (o' : Fin 1 → ℕ) (o : ℕ) (ho : o' = ![o]) (h : o + 16 ≤ 15616) (hi) :
    View.readAt (Elt F) x0M.view (Rect.unit (s := S15616) o' S16.size hi).toLoadRect x = row x o h := by
  subst ho
  funext y
  refine congrArg x (idx1_ext ?_)
  show o + 1 * (y 0).val = o + (y 0).val
  rw [Nat.one_mul]

/-- The same for the second buffer of points. -/
theorem readAt_x1 (x : Vec F S15616 .f32) (o' : Fin 1 → ℕ) (o : ℕ) (ho : o' = ![o]) (h : o + 16 ≤ 15616) (hi) :
    View.readAt (Elt F) x1M.view (Rect.unit (s := S15616) o' S16.size hi).toLoadRect x = row x o h :=
  readAt_x0 x o' o ho h hi

/-- A trip's store extends what the trips before it have stored: where the first `16 * k` elements were `g`'s, the
    first `16 * (k + 1)` are. -/
theorem trip_store (f : Vec F S15616 .f32) (o' : Fin 1 → ℕ) (k : ℕ) (ho : o' = ![16 * k]) (hk : 16 * k + 16 ≤ 15616) (hi)
    (w : Vec F S16 .f32) (g : Vec F S15616 .f32) (hf : ∀ y : S15616.Idx, (y 0).val < 16 * k → f y = g y)
    (hw : ∀ x, w x = row g (16 * k) hk x) (y : S15616.Idx) (hy : (y 0).val < 16 * (k + 1)) :
    o0M.view.writes (Elt F) f [⟨Rect.unit (s := S15616) o' S16.size hi, w⟩] y = g y := by
  subst ho
  by_cases h : (y 0).val < 16 * k
  · exact (read_miss o0M.view f (16 * k) 16 _ _ _ y (.inl h)).trans (hf y h)
  · refine (read_hit o0M.view f (16 * k) 16 _ _ _ y (by omega)).trans ?_
    rw [hw]
    refine congrArg g (idx1_ext ?_)
    show 16 * k + ((y 0).val - 16 * k) = (y 0).val
    omega

/-- A trip of the first loop: the elements it stores are the results at its sixteen points. -/
theorem trip1 (T : Vec F S64 .f32) (x f : Vec F S15616 .f32) (k : Fin k0_t1_loop.trips)
    (hf : ∀ y : S15616.Idx, (y 0).val < 16 * k.val → f y = point T (x y)) (h4 h5) (v : Vec F S16 .f32)
    (hv : v = View.readAt (Elt F) x0M.view (Rect.unit (s := S15616) (k0_off4 k) S16.size h4).toLoadRect x)
    (h0 : ∀ a x, ((![k0_pay2 v] : Fin 1 → IVec S16 32) a x).toNat < S64.size a)
    (h1 : ∀ a x, ((![addi (k0_pay2 v) k0_pay10] : Fin 1 → IVec S16 32) a x).toNat < S64.size a)
    (h2 : ∀ a x, ((![addi (k0_pay2 v) k0_pay11] : Fin 1 → IVec S16 32) a x).toNat < S64.size a)
    (h3 : ∀ a x, ((![addi (k0_pay2 v) k0_pay12] : Fin 1 → IVec S16 32) a x).toNat < S64.size a)
    (y : S15616.Idx) (hy : (y 0).val < 16 * (k.val + 1)) :
    o0M.view.writes (Elt F) f [⟨Rect.unit (s := S15616) (k0_off5 k) S16.size h5,
      k0_pay3 v (k0_pay2 v) (loadIdx (View.read (Elt F) tabM.view T) ![k0_pay2 v] h0)
        (loadIdx (View.read (Elt F) tabM.view T) ![addi (k0_pay2 v) k0_pay10] h1)
        (loadIdx (View.read (Elt F) tabM.view T) ![addi (k0_pay2 v) k0_pay11] h2)
        (loadIdx (View.read (Elt F) tabM.view T) ![addi (k0_pay2 v) k0_pay12] h3)⟩] y = point T (x y) := by
  have hk : 16 * k.val + 16 ≤ 15616 := by have : k.val < 976 := k.isLt; omega
  refine trip_store f (k0_off5 k) k.val (k0_off5_eq k) hk h5 _ (result T x) hf (fun z => ?_) y hy
  refine (trip_lane T _ z h0 h1 h2 h3).trans ?_
  rw [hv, readAt_x0 x (k0_off4 k) (16 * k.val) (k0_off4_eq k) hk]
  rfl

/-- A trip of the second loop. -/
theorem trip2 (T : Vec F S64 .f32) (x f : Vec F S15616 .f32) (k : Fin k0_t2_loop.trips)
    (hf : ∀ y : S15616.Idx, (y 0).val < 16 * k.val → f y = point T (x y)) (h4 h5) (v : Vec F S16 .f32)
    (hv : v = View.readAt (Elt F) x1M.view (Rect.unit (s := S15616) (k0_off6 k) S16.size h4).toLoadRect x)
    (h0 : ∀ a x, ((![k0_pay5 v] : Fin 1 → IVec S16 32) a x).toNat < S64.size a)
    (h1 : ∀ a x, ((![addi (k0_pay5 v) k0_pay10] : Fin 1 → IVec S16 32) a x).toNat < S64.size a)
    (h2 : ∀ a x, ((![addi (k0_pay5 v) k0_pay11] : Fin 1 → IVec S16 32) a x).toNat < S64.size a)
    (h3 : ∀ a x, ((![addi (k0_pay5 v) k0_pay12] : Fin 1 → IVec S16 32) a x).toNat < S64.size a)
    (y : S15616.Idx) (hy : (y 0).val < 16 * (k.val + 1)) :
    o1M.view.writes (Elt F) f [⟨Rect.unit (s := S15616) (k0_off7 k) S16.size h5,
      k0_pay6 v (k0_pay5 v) (loadIdx (View.read (Elt F) tabM.view T) ![k0_pay5 v] h0)
        (loadIdx (View.read (Elt F) tabM.view T) ![addi (k0_pay5 v) k0_pay10] h1)
        (loadIdx (View.read (Elt F) tabM.view T) ![addi (k0_pay5 v) k0_pay11] h2)
        (loadIdx (View.read (Elt F) tabM.view T) ![addi (k0_pay5 v) k0_pay12] h3)⟩] y = point T (x y) := by
  have hk : 16 * k.val + 16 ≤ 15616 := by have : k.val < 976 := k.isLt; omega
  refine trip_store f (k0_off7 k) k.val (k0_off7_eq k) hk h5 _ (result T x) hf (fun z => ?_) y hy
  refine (trip_lane T _ z h0 h1 h2 h3).trans ?_
  rw [hv, readAt_x1 x (k0_off6 k) (16 * k.val) (k0_off6_eq k) hk]
  rfl

/-- A trip of the loop over the tail. -/
theorem trip3 (T : Vec F S64 .f32) (x f : Vec F S15616 .f32) (k : Fin k0_t3_loop.trips)
    (hf : ∀ y : S15616.Idx, (y 0).val < 16 * k.val → f y = point T (x y)) (h4 h5) (v : Vec F S16 .f32)
    (hv : v = View.readAt (Elt F) x0M.view (Rect.unit (s := S15616) (k0_off8 k) S16.size h4).toLoadRect x)
    (h0 : ∀ a x, ((![k0_pay8 v] : Fin 1 → IVec S16 32) a x).toNat < S64.size a)
    (h1 : ∀ a x, ((![addi (k0_pay8 v) k0_pay10] : Fin 1 → IVec S16 32) a x).toNat < S64.size a)
    (h2 : ∀ a x, ((![addi (k0_pay8 v) k0_pay11] : Fin 1 → IVec S16 32) a x).toNat < S64.size a)
    (h3 : ∀ a x, ((![addi (k0_pay8 v) k0_pay12] : Fin 1 → IVec S16 32) a x).toNat < S64.size a)
    (y : S15616.Idx) (hy : (y 0).val < 16 * (k.val + 1)) :
    o0M.view.writes (Elt F) f [⟨Rect.unit (s := S15616) (k0_off9 k) S16.size h5,
      k0_pay9 v (k0_pay8 v) (loadIdx (View.read (Elt F) tabM.view T) ![k0_pay8 v] h0)
        (loadIdx (View.read (Elt F) tabM.view T) ![addi (k0_pay8 v) k0_pay10] h1)
        (loadIdx (View.read (Elt F) tabM.view T) ![addi (k0_pay8 v) k0_pay11] h2)
        (loadIdx (View.read (Elt F) tabM.view T) ![addi (k0_pay8 v) k0_pay12] h3)⟩] y = point T (x y) := by
  have hk : 16 * k.val + 16 ≤ 15616 := by have : k.val < 36 := k.isLt; omega
  refine trip_store f (k0_off9 k) k.val (k0_off9_eq k) hk h5 _ (result T x) hf (fun z => ?_) y hy
  refine (trip_lane T _ z h0 h1 h2 h3).trans ?_
  rw [hv, readAt_x0 x (k0_off8 k) (16 * k.val) (k0_off8_eq k) hk]
  rfl

/-- What a copy into a slice of the result leaves there: on the slice's elements, the vector `g` whose chunk was
    copied. -/
theorem out_eq {m : ℕ} (OV g : Vec F S1000000 .f32) (o' : Fin 1 → ℕ) (o : ℕ) (ho : o' = ![o]) (h : o + m ≤ 1000000) (hi) (hu)
    (w : Vec F ⟨1, ![m]⟩ .f32) (hw : ∀ y, w y = chunk g o h y) :
    ∀ i ∈ (oM.slice (Rect.unit (s := S1000000) o' ![m] hi) hu).view.set,
      (oM.slice (Rect.unit (s := S1000000) o' ![m] hi) hu).view.writes (Elt F) OV [⟨Rect.whole ⟨1, ![m]⟩, w⟩] i = g i := by
  subst ho
  intro i hmem
  obtain ⟨y, -, rfl⟩ := Finset.mem_map.1 hmem
  have e := View.read_writes_cons_hit (oM.slice (Rect.unit (s := S1000000) ![o] ![m] hi) hu).view OV (Rect.whole ⟨1, ![m]⟩) w [] y y
    (by exact Rect.emb_whole_apply ⟨1, ![m]⟩ y)
  refine (show _ = _ from e).trans ((hw y).trans (congrArg g (idx1_ext ?_)))
  show o + (y 0).val = o + 1 * (y 0).val
  rw [Nat.one_mul]

/-- The points of the tail, copied to the head of the first buffer of points. -/
theorem tail_points (X : Vec F S1000000 .f32) (g : Vec F S15616 .f32) (h1 h2 h3) (y : S15616.Idx) (hy : (y 0).val < 576) :
    x0M.view.writes (Elt F) g [⟨Rect.unit (s := S15616) ![0] S576.size h1,
      ReadAs.same.apply (View.read (Elt F) (xM.slice (Rect.unit (s := S1000000) ![999424] S576.size h2) h3).view X)⟩] y
      = X (at1 (999424 + (y 0).val) (by omega)) := by
  refine (read_hit x0M.view g 0 576 h1 _ [] y (by omega)).trans ?_
  refine (congrFun (read_slice X ![999424] 999424 rfl (by decide) h2 h3) _).trans ?_
  exact congrArg X (idx1_ext rfl)

/-- What the tail's copy carries: the results at the last 576 points. -/
theorem tail_value (T : Vec F S64 .f32) (X : Vec F S1000000 .f32) (x f : Vec F S15616 .f32)
    (hx : ∀ y : S15616.Idx, (hy : (y 0).val < 576) → x y = X (at1 (999424 + (y 0).val) (by omega)))
    (hf : ∀ y : S15616.Idx, (y 0).val < 576 → f y = point T (x y)) (h1 h2) (y : S576.Idx) :
    ReadAs.same.apply (View.read (Elt F) (o0M.slice (Rect.unit (s := S15616) ![0] S576.size h1) h2).view f) y
      = chunk (result T X) 999424 (by decide : 999424 + 576 ≤ 1000000) y := by
  have hy : (y 0).val < 576 := (y 0).isLt
  have e : ReadAs.same.apply (View.read (Elt F) (o0M.slice (Rect.unit (s := S15616) ![0] S576.size h1) h2).view f) y
      = f (at1 (y 0).val (by omega)) := by
    refine congrArg f (idx1_ext ?_)
    show 0 + 1 * (y 0).val = (y 0).val
    omega
  rw [e, hf _ hy, hx _ hy]
  rfl

end Cert.Proof.Spline

end
-- ==== Proof.Tile.lean ====
/-
  The run of one tile, from what it holds at its start to the values of its points in its parts of the result.
-/
module

public import proofs.«01_k».proof.Proof.Contents

@[expose] public section

noncomputable section

namespace Cert.Proof.Spline

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Before trip `k` of a loop over the first buffer of points: the table and the points are unchanged, and the first `16 * k` results are in place. -/
def inv1 (T : Vec F S64 .f32) (x : Vec F S15616 .f32) : ℕ → PUnit → sProp 𝕄 := fun k _ =>
  iprop((tabM.view.loc (VT d L) ↦{fullShare} T) ∗ (x0M.view.loc (VT d L) ↦{fullShare} x)
    ∗ ∃ f : Buf (Elt F) (o0M.view.loc (VT d L)), ⌜∀ y : S15616.Idx, (y 0).val < 16 * k → f y = point T (x y)⌝
      ∗ o0M.view.loc (VT d L) ↦{fullShare} f)

/-- The same for the second buffer. -/
def inv2 (T : Vec F S64 .f32) (x : Vec F S15616 .f32) : ℕ → PUnit → sProp 𝕄 := fun k _ =>
  iprop((tabM.view.loc (VT d L) ↦{fullShare} T) ∗ (x1M.view.loc (VT d L) ↦{fullShare} x)
    ∗ ∃ f : Buf (Elt F) (o1M.view.loc (VT d L)), ⌜∀ y : S15616.Idx, (y 0).val < 16 * k → f y = point T (x y)⌝
      ∗ o1M.view.loc (VT d L) ↦{fullShare} f)

/-- The tail of the result, held by the one tile that fills it. -/
def tailAt (f : Buf (Elt F) (oM.view.loc (VT d L))) : sProp 𝕄 :=
  if k0_cond1 L = 1#1 then iprop(oC.view.loc (VT d L) ↦[oC.view.set]{fullShare} f) else iprop(emp)

/-- The last tile holds the tail. -/
theorem tailAt_pos (f : Buf (Elt F) (oM.view.loc (VT d L))) (h : k0_cond1 L = 1#1) :
    tailAt d L f = (oC.view.loc (VT d L) ↦[oC.view.set]{fullShare} f : sProp 𝕄) := if_pos h

/-- Any other tile holds nothing of it. -/
theorem tailAt_neg (f : Buf (Elt F) (oM.view.loc (VT d L))) (h : ¬ k0_cond1 L = 1#1) :
    tailAt d L f = (iprop(emp) : sProp 𝕄) := if_neg h

set_option maxHeartbeats 4000000 in
/-- A tile's run: from the five arrays it reads, its parts of the result, its scratch, and its semaphores at zero, the body ends with its parts of the result
    at the points' values and the arrays it reads unchanged. -/
theorem tile_run (q : PosShare TreeShare) (O : CellTallies nD τ sig (HIx 1)) (W : Waits sig (HIx 1))
    (FC : Buf (Elt F) (fcM.view.loc (VT d L))) (WV : Buf (Elt F) (wM.view.loc (VT d L))) (MU : Buf (Elt F) (muM.view.loc (VT d L)))
    (BV : Buf (Elt F) (bM.view.loc (VT d L))) (X : Buf (Elt F) (xM.view.loc (VT d L))) (OV : Buf (Elt F) (oM.view.loc (VT d L)))
    (s0 : Buf (Elt F) (tabM.view.loc (VT d L))) (s1 : Buf (Elt F) (stM.view.loc (VT d L))) (s2 : Buf (Elt F) (fbM.view.loc (VT d L)))
    (s3 : Buf (Elt F) (gM.view.loc (VT d L))) (s4 : Buf (Elt F) (x0M.view.loc (VT d L))) (s5 : Buf (Elt F) (x1M.view.loc (VT d L)))
    (s6 : Buf (Elt F) (o0M.view.loc (VT d L))) (s7 : Buf (Elt F) (o1M.view.loc (VT d L))) :
    (iprop(Transfers.MayWaits (VT d L) (default : HIx 1) O
        ∗ (fcM.view.loc (VT d L) ↦{q} FC) ∗ (wM.view.loc (VT d L) ↦{q} WV) ∗ (muM.view.loc (VT d L) ↦{q} MU)
        ∗ (bM.view.loc (VT d L) ↦{q} BV) ∗ (xM.view.loc (VT d L) ↦{q} X)
        ∗ ((oA L).view.loc (VT d L) ↦[(oA L).view.set]{fullShare} OV)
        ∗ ((oB L).view.loc (VT d L) ↦[(oB L).view.set]{fullShare} OV) ∗ tailAt d L OV
        ∗ (tabM.view.loc (VT d L) ↦{fullShare} s0) ∗ (stM.view.loc (VT d L) ↦{fullShare} s1) ∗ (fbM.view.loc (VT d L) ↦{fullShare} s2)
        ∗ (gM.view.loc (VT d L) ↦{fullShare} s3) ∗ (x0M.view.loc (VT d L) ↦{fullShare} s4) ∗ (x1M.view.loc (VT d L) ↦{fullShare} s5)
        ∗ (o0M.view.loc (VT d L) ↦{fullShare} s6) ∗ (o1M.view.loc (VT d L) ↦{fullShare} s7)
        ∗ cells0 d L ∗ owes (VT d L) O W) : sProp 𝕄)
      ⊢ wp frame (wpE (defs₀ (F := F)) 𝒱₀ (VT d L) none) Set.univ
          (cc0__sc_body L fcM (Memref.isWhole_whole _) wM (Memref.isWhole_whole _) muM (Memref.isWhole_whole _) bM (Memref.isWhole_whole _)
            xM (Memref.isWhole_whole _) oM (Memref.isWhole_whole _) tabM (Memref.isWhole_whole _) stM (Memref.isWhole_whole _)
            fbM (Memref.isWhole_whole _) gM (Memref.isWhole_whole _) x0M (Memref.isWhole_whole _) x1M (Memref.isWhole_whole _)
            o0M (Memref.isWhole_whole _) o1M (Memref.isWhole_whole _) cc0_scratch8 cc0_scratch9 cc0_scratch10 cc0_scratch11
            cc0_scoped0 cc0_scoped1 cc0_scoped2 cc0_scoped3 cc0_scoped4 cc0_scoped5)
          fun _ => iprop((fcM.view.loc (VT d L) ↦{q} FC) ∗ (wM.view.loc (VT d L) ↦{q} WV) ∗ (muM.view.loc (VT d L) ↦{q} MU)
            ∗ (bM.view.loc (VT d L) ↦{q} BV) ∗ (xM.view.loc (VT d L) ↦{q} X)
            ∗ ((oA L).view.loc (VT d L) ↦[(oA L).view.set]{fullShare} (result (table FC WV MU BV) X : Vec F S1000000 .f32))
            ∗ ((oB L).view.loc (VT d L) ↦[(oB L).view.set]{fullShare} (result (table FC WV MU BV) X : Vec F S1000000 .f32))
            ∗ tailAt d L (result (table FC WV MU BV) X : Vec F S1000000 .f32)
            ∗ (∃ f, tabM.view.loc (VT d L) ↦{fullShare} f) ∗ (∃ f, stM.view.loc (VT d L) ↦{fullShare} f)
            ∗ (∃ f, fbM.view.loc (VT d L) ↦{fullShare} f) ∗ (∃ f, gM.view.loc (VT d L) ↦{fullShare} f)
            ∗ (∃ f, x0M.view.loc (VT d L) ↦{fullShare} f) ∗ (∃ f, x1M.view.loc (VT d L) ↦{fullShare} f)
            ∗ (∃ f, o0M.view.loc (VT d L) ↦{fullShare} f) ∗ (∃ f, o1M.view.loc (VT d L) ↦{fullShare} f)
            ∗ cells0 d L ∗ ∃ W' : Waits sig (HIx 1), ⌜∀ p ∈ W', p ∈ W ∨ p.2 = none⌝ ∗ owes (VT d L) O W') := by
  iintro ⟨#Hmw, Hfc, Hw, Hmu, Hb, Hx, HoA, HoB, HoC, Ht, Hst, Hfb, Hg, Hx0, Hx1, Ho0, Ho1,
    ⟨C8, C9, C10, C11, D0, D1, D2, D3, D4, D5⟩, HO⟩
  sl_unfold [cc0__sc_body]
  sl_exec
  iapply (wp_gather (VT d L) (M := stM)) $$ Hst; iintro Hst
  iapply (wp_gather (VT d L) (M := gM)) $$ Hg; iintro Hg
  sl_exec
  ihave Hst := (pts_congr (ℓ := stM.view.loc (VT d L)) (g := staged WV MU BV) ?h1) $$ Hst
  case h1 =>
    sl_unfold_run_names
    exact st_writes _ WV MU BV
  ihave Ht := (pts_congr (ℓ := tabM.view.loc (VT d L)) (g := table FC WV MU BV) ?h1) $$ Ht
  case h1 =>
    sl_unfold_run_names
    funext y
    refine (tab_writes _ _ _ _ _ y).trans ?_
    unfold table
    rw [fb_write, readAt_fb FC 0 (by decide), readAt_fb FC 16 (by decide), readAt_fb FC 32 (by decide), readAt_fb FC 48 (by decide),
      readAt_fb FC 64 (by decide), readAt_fb FC 80 (by decide), readAt_fb FC 96 (by decide), readAt_fb FC 112 (by decide),
      readAt_fb FC 128 (by decide), readAt_fb FC 144 (by decide), readAt_fb FC 160 (by decide), st_row WV MU BV 0 (by decide),
      st_row WV MU BV 16 (by decide), st_row WV MU BV 32 (by decide), st_writes, g_writes, gather_st, gather_g]
    rfl
  ihave Hx0 := (pts_congr (ℓ := x0M.view.loc (VT d L)) (g := chunk X (base L) (base_inb L 0)) ?h1) $$ Hx0
  case h1 =>
    sl_unfold_run_names
    refine (View.write_whole_univ _ _ _).trans ?_
    exact read_slice X (k0_off1 L) (base L) (k0_off1_eq L) (base_inb L 0) _ _
  sl_for (inv1 d L (table FC WV MU BV) (chunk X (base L) (base_inb L 0))) $$ [Ht Hx0 Ho0]
  case region =>
    intro k _
    unfold inv1
    iintro ⟨Ht, Hx0, %f, %hf, Ho0⟩
    sl_exec (disch := exact chk2 _)
    iapply (wp_gather (VT d L) (M := tabM)) $$ Ht; iintro Ht
    sl_exec (disch := exact chk3 _)
    iapply (wp_gather (VT d L) (M := tabM)) $$ Ht; iintro Ht
    sl_exec (disch := exact chk4 _)
    iapply (wp_gather (VT d L) (M := tabM)) $$ Ht; iintro Ht
    sl_exec (disch := exact chk5 _)
    iapply (wp_gather (VT d L) (M := tabM)) $$ Ht; iintro Ht
    sl_exec
    sl_step
    isplitl [Ht]; · iexact Ht
    isplitl [Hx0]; · iexact Hx0
    iexists _; isplitr
    rotate_left
    · iexact Ho0
    · ipureintro
      intro y hy
      sl_unfold_run_names
      exact trip1 (table FC WV MU BV) (chunk X (base L) (base_inb L 0)) f k hf _ _ _ rfl _ _ _ _ y hy
  · unfold inv1
    isplitl [Ht]; · iexact Ht
    isplitl [Hx0]; · iexact Hx0
    iexists s6; isplitr
    · ipureintro; intro y hy; omega
    · iexact Ho0
  iintro %_ HI
  unfold inv1
  icases HI with ⟨Ht, Hx0, %f0, %hf0, Ho0⟩
  sl_exec
  ihave Hx1 := (pts_congr (ℓ := x1M.view.loc (VT d L)) (g := chunk X (base L + 15616) (base_inb L 1)) ?h1) $$ Hx1
  case h1 =>
    sl_unfold_run_names
    refine (View.write_whole_univ _ _ _).trans ?_
    exact read_slice X (k0_off3 L 15616#32) (base L + 15616) (k0_off3_eq L 1) (base_inb L 1) _ _
  sl_for (inv2 d L (table FC WV MU BV) (chunk X (base L + 15616) (base_inb L 1))) $$ [Ht Hx1 Ho1]
  case region =>
    intro k _
    unfold inv2
    iintro ⟨Ht, Hx1, %f, %hf, Ho1⟩
    sl_exec (disch := exact chk6 _)
    iapply (wp_gather (VT d L) (M := tabM)) $$ Ht; iintro Ht
    sl_exec (disch := exact chk7 _)
    iapply (wp_gather (VT d L) (M := tabM)) $$ Ht; iintro Ht
    sl_exec (disch := exact chk8 _)
    iapply (wp_gather (VT d L) (M := tabM)) $$ Ht; iintro Ht
    sl_exec (disch := exact chk9 _)
    iapply (wp_gather (VT d L) (M := tabM)) $$ Ht; iintro Ht
    sl_exec
    sl_step
    isplitl [Ht]; · iexact Ht
    isplitl [Hx1]; · iexact Hx1
    iexists _; isplitr
    rotate_left
    · iexact Ho1
    · ipureintro
      intro y hy
      sl_unfold_run_names
      exact trip2 (table FC WV MU BV) (chunk X (base L + 15616) (base_inb L 1)) f k hf _ _ _ rfl _ _ _ _ y hy
  · unfold inv2
    isplitl [Ht]; · iexact Ht
    isplitl [Hx1]; · iexact Hx1
    iexists s7; isplitr
    · ipureintro; intro y hy; omega
    · iexact Ho1
  iintro %_ HI
  unfold inv2
  icases HI with ⟨Ht, Hx1, %f1, %hf1, Ho1⟩
  sl_exec
  by_cases hc : k0_cond1 L = 1#1
  · ihave HoC := (Entails.of_eq (tailAt_pos d L OV hc)) $$ HoC
    sl_exec
    sl_for (inv1 d L (table FC WV MU BV) (x0M.view.writes (Elt F) (chunk X (base L) (base_inb L 0))
      [⟨Rect.unit (s := S15616) ![0] S576.size inb_S15616_S576_0, ReadAs.same.apply (View.read (Elt F)
        (xM.slice (Rect.unit (s := S1000000) ![999424] S576.size inb_S1000000_S576_999424) (fun _ => rfl)).view X)⟩])) $$ [Ht Hx0 Ho0]
    case region =>
      intro k _
      unfold inv1
      iintro ⟨Ht, Hx0, %f, %hf, Ho0⟩
      sl_exec (disch := exact chk10 L _)
      iapply (wp_gather (VT d L) (M := tabM)) $$ Ht; iintro Ht
      sl_exec (disch := exact chk11 L _)
      iapply (wp_gather (VT d L) (M := tabM)) $$ Ht; iintro Ht
      sl_exec (disch := exact chk12 L _)
      iapply (wp_gather (VT d L) (M := tabM)) $$ Ht; iintro Ht
      sl_exec (disch := exact chk13 L _)
      iapply (wp_gather (VT d L) (M := tabM)) $$ Ht; iintro Ht
      sl_exec
      sl_step
      isplitl [Ht]; · iexact Ht
      isplitl [Hx0]; · iexact Hx0
      iexists _; isplitr
      rotate_left
      · iexact Ho0
      · ipureintro
        intro y hy
        sl_unfold_run_names
        exact trip3 (table FC WV MU BV) _ f k hf _ _ _ rfl _ _ _ _ y hy
    · unfold inv1
      isplitl [Ht]; · iexact Ht
      isplitl [Hx0]; · iexact Hx0
      iexists f0; isplitr
      · ipureintro; intro y hy; omega
      · iexact Ho0
    iintro %_ HI
    unfold inv1
    icases HI with ⟨Ht, Hx0, %f2, %hf2, Ho0⟩
    sl_exec
    sl_step
    isplitl [Hfc]; · iexact Hfc
    isplitl [Hw]; · iexact Hw
    isplitl [Hmu]; · iexact Hmu
    isplitl [Hb]; · iexact Hb
    isplitl [Hx]; · iexact Hx
    isplitl [HoA]
    · iapply (Entails.of_eq (pointsTo_congr (out_eq _ (result (table FC WV MU BV) X) (k0_off3 L 0#32) (base L) (k0_off3_eq L 0)
        (base_inb L 0) _ _ f0 (fun y => hf0 y (y 0).isLt))))
      iexact HoA
    isplitl [HoB]
    · iapply (Entails.of_eq (pointsTo_congr (out_eq _ (result (table FC WV MU BV) X) (k0_off3 L 15616#32) (base L + 15616) (k0_off3_eq L 1)
        (base_inb L 1) _ _ f1 (fun y => hf1 y (y 0).isLt))))
      iexact HoB
    isplitl [HoC]
    · iapply (Entails.of_eq (tailAt_pos d L _ hc).symm)
      iapply (Entails.of_eq (pointsTo_congr (out_eq _ (result (table FC WV MU BV) X) ![999424] 999424 rfl
        (by decide : 999424 + 576 ≤ 1000000) _ _ _
        (tail_value (table FC WV MU BV) X _ f2 (tail_points X (chunk X (base L) (base_inb L 0)) _ _ _) hf2 _ _))))
      iexact HoC
    isplitl [Ht]; · iexists _; iexact Ht
    isplitl [Hst]; · iexists _; iexact Hst
    isplitl [Hfb]; · iexists _; iexact Hfb
    isplitl [Hg]; · iexists _; iexact Hg
    isplitl [Hx0]; · iexists _; iexact Hx0
    isplitl [Hx1]; · iexists _; iexact Hx1
    isplitl [Ho0]; · iexists _; iexact Ho0
    isplitl [Ho1]; · iexists _; iexact Ho1
    isplitl [C8 C9 C10 C11 D0 D1 D2 D3 D4 D5]
    · isplitl [C8]; · iexact C8
      isplitl [C9]; · iexact C9
      isplitl [C10]; · iexact C10
      isplitl [C11]; · iexact C11
      isplitl [D0]; · iexact D0
      isplitl [D1]; · iexact D1
      isplitl [D2]; · iexact D2
      isplitl [D3]; · iexact D3
      isplitl [D4]; · iexact D4
      iexact D5
    iexists _; isplitr
    rotate_left
    · iexact HO
    · ipureintro
      intro p hp
      simp only [Finset.mem_insert] at hp
      rcases hp with rfl | rfl | rfl | rfl | rfl | rfl | rfl | rfl | rfl | rfl | hp
      all_goals first | exact .inl hp | exact .inr rfl
  · ihave HoC := (Entails.of_eq (tailAt_neg d L OV hc)) $$ HoC
    sl_exec
    sl_step
    isplitl [Hfc]; · iexact Hfc
    isplitl [Hw]; · iexact Hw
    isplitl [Hmu]; · iexact Hmu
    isplitl [Hb]; · iexact Hb
    isplitl [Hx]; · iexact Hx
    isplitl [HoA]
    · iapply (Entails.of_eq (pointsTo_congr (out_eq _ (result (table FC WV MU BV) X) (k0_off3 L 0#32) (base L) (k0_off3_eq L 0)
        (base_inb L 0) _ _ f0 (fun y => hf0 y (y 0).isLt))))
      iexact HoA
    isplitl [HoB]
    · iapply (Entails.of_eq (pointsTo_congr (out_eq _ (result (table FC WV MU BV) X) (k0_off3 L 15616#32) (base L + 15616) (k0_off3_eq L 1)
        (base_inb L 1) _ _ f1 (fun y => hf1 y (y 0).isLt))))
      iexact HoB
    isplitl [HoC]; · iapply (Entails.of_eq (tailAt_neg d L _ hc).symm); iexact HoC
    isplitl [Ht]; · iexists _; iexact Ht
    isplitl [Hst]; · iexists _; iexact Hst
    isplitl [Hfb]; · iexists _; iexact Hfb
    isplitl [Hg]; · iexists _; iexact Hg
    isplitl [Hx0]; · iexists _; iexact Hx0
    isplitl [Hx1]; · iexists _; iexact Hx1
    isplitl [Ho0]; · iexists _; iexact Ho0
    isplitl [Ho1]; · iexists _; iexact Ho1
    isplitl [C8 C9 C10 C11 D0 D1 D2 D3 D4 D5]
    · isplitl [C8]; · iexact C8
      isplitl [C9]; · iexact C9
      isplitl [C10]; · iexact C10
      isplitl [C11]; · iexact C11
      isplitl [D0]; · iexact D0
      isplitl [D1]; · iexact D1
      isplitl [D2]; · iexact D2
      isplitl [D3]; · iexact D3
      isplitl [D4]; · iexact D4
      iexact D5
    iexists _; isplitr
    rotate_left
    · iexact HO
    · ipureintro
      intro p hp
      simp only [Finset.mem_insert] at hp
      rcases hp with rfl | rfl | rfl | rfl | rfl | rfl | rfl | rfl | hp
      all_goals first | exact .inl hp | exact .inr rfl

end Cert.Proof.Spline

end
-- ==== Proof.Deal.lean ====
/-
  What the launch deals a tile and takes back: the tile's part of the result, its read shares of the five arrays it
  reads, its own scratch buffers and semaphores; and the tile's run in those terms.
-/
module

public import proofs.«01_k».proof.Proof.Tile

@[expose] public section

noncomputable section

namespace Cert.Proof.Spline

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The launch's side conditions on the program's semaphores and shared buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## A tile's part of the result -/

/-- The first point of tile `i` of core `c`. -/
def start (c i : ℕ) : ℕ := 31232 * (2 * i + c)

/-- The points of tile `i` of core `c`: the 31232 from its first on, and for the last tile all from its first on. -/
def part (c i : ℕ) : Finset S1000000.Idx :=
  Finset.univ.filter fun y => start c i ≤ (y 0).val ∧ ((y 0).val < start c i + 31232 ∨ (c = 1 ∧ i = 15))

/-- Which points are those of a tile. -/
theorem mem_part {c i : ℕ} {y : S1000000.Idx} :
    y ∈ part c i ↔ start c i ≤ (y 0).val ∧ ((y 0).val < start c i + 31232 ∨ (c = 1 ∧ i = 15)) := by
  unfold part; simp

/-- Two tiles share no point. -/
theorem part_disjoint (p : Fin 2 × Fin 16) (p' : Fin 2 × Fin 16) (h : p ≠ p') : Disjoint (part p.1 p.2) (part p'.1 p'.2) := by
  rw [Finset.disjoint_left]
  intro y h1 h2
  rw [mem_part] at h1 h2
  unfold start at h1 h2
  have := p.1.isLt; have := p.2.isLt; have := p'.1.isLt; have := p'.2.isLt
  apply h
  have e1 : p.1.val = p'.1.val := by omega
  have e2 : p.2.val = p'.2.val := by omega
  exact Prod.ext (Fin.ext e1) (Fin.ext e2)

/-- The tiles' points are all the points. -/
theorem part_cover : (Finset.univ : Finset (Fin 2 × Fin 16)).biUnion (fun p => part p.1 p.2) = Finset.univ := by
  refine Finset.eq_univ_iff_forall.mpr fun y => Finset.mem_biUnion.mpr ?_
  have hy : (y 0).val < 1000000 := (y 0).isLt
  by_cases hw : (y 0).val / 31232 < 32
  · refine ⟨(⟨(y 0).val / 31232 % 2, by omega⟩, ⟨(y 0).val / 31232 / 2, by omega⟩), Finset.mem_univ _, ?_⟩
    rw [mem_part]; unfold start; dsimp only; omega
  · refine ⟨(1, 15), Finset.mem_univ _, ?_⟩
    rw [mem_part]; unfold start
    change 31232 * (2 * 15 + 1) ≤ _ ∧ (_ ∨ ((1 : ℕ) = 1 ∧ (15 : ℕ) = 15))
    omega

section Tile

variable (d : Dev nD) (L : grid0.Coords)

/-- A slice of the result of `n` points from `o` on holds the points numbered `o` to `o + n - 1`. -/
theorem mem_slice1 {n : ℕ} (o' : Fin 1 → ℕ) (o : ℕ) (ho : o' = ![o]) (hi) (hu) (y : S1000000.Idx) :
    y ∈ (oM.slice (Rect.unit (s := S1000000) o' ((⟨1, ![n]⟩ : Shape)).size hi) hu).view.set ↔ o ≤ (y 0).val ∧ (y 0).val < o + n := by
  subst ho
  show y ∈ ((View.whole (main_v10_scv : Ref sig .scVector)).slice (Rect.unit (s := S1000000) ![o] ((⟨1, ![n]⟩ : Shape)).size hi)).set ↔ _
  rw [View.set_slice]
  rw [show Finset.map (View.whole (main_v10_scv : Ref sig .scVector)).emb (Rect.unit (s := S1000000) ![o] ((⟨1, ![n]⟩ : Shape)).size hi).set
    = (Rect.unit (s := S1000000) ![o] ((⟨1, ![n]⟩ : Shape)).size hi).set from Finset.map_refl, Rect.mem_set_unit]
  exact ⟨fun h => h 0, fun h a => by rw [Subsingleton.elim a 0]; exact h⟩

/-- The first chunk holds the tile's first 15616 points. -/
theorem mem_oA (y : S1000000.Idx) : y ∈ (oA L).view.set ↔ base L ≤ (y 0).val ∧ (y 0).val < base L + 15616 :=
  mem_slice1 (n := 15616) _ (base L) ((k0_off3_eq L 0).trans (by unfold base; simp)) _ _ y

/-- The second chunk holds the 15616 points after them. -/
theorem mem_oB (y : S1000000.Idx) :
    y ∈ (oB L).view.set ↔ base L + 15616 ≤ (y 0).val ∧ (y 0).val < base L + 15616 + 15616 :=
  mem_slice1 (n := 15616) _ (base L + 15616) ((k0_off3_eq L 1).trans (by unfold base; simp)) _ _ y

/-- The tail holds the last 576 points. -/
theorem mem_oC (y : S1000000.Idx) : y ∈ oC.view.set ↔ 999424 ≤ (y 0).val ∧ (y 0).val < 999424 + 576 :=
  mem_slice1 (n := 576) _ 999424 rfl _ _ y

/-- The kernel's test for the last tile. -/
theorem cond_iff : ∀ L : grid0.Coords, k0_cond1 L = 1#1 ↔ (L 0).val = 1 ∧ (L 1).val = 15 := by decide +kernel

/-- The first point of a tile, as the launch and as the body count it. -/
theorem start_eq : start (L 0).val (L 1).val = base L := by unfold start base; omega

set_option maxRecDepth 4096 in
/-- A tile's points, as the body slices them. -/
theorem part_split [FloatOps F] (f : Buf (Elt F) (oM.view.loc (VT d L))) :
    (oM.view.loc (VT d L) ↦[part (L 0).val (L 1).val]{fullShare} f : sProp 𝕄)
      ⊣⊢ iprop(((oA L).view.loc (VT d L) ↦[(oA L).view.set]{fullShare} f) ∗ ((oB L).view.loc (VT d L) ↦[(oB L).view.set]{fullShare} f)
          ∗ tailAt d L f) := by
  have hb : base L + 31232 ≤ 1000000 := base_inb L 1
  have hAB : Disjoint (oA L).view.set (oB L).view.set := by
    rw [Finset.disjoint_left]; intro y h1 h2
    have h1 := (mem_oA L y).mp h1; have h2 := (mem_oB L y).mp h2; omega
  by_cases hc : k0_cond1 L = 1#1
  · rw [tailAt_pos d L f hc]
    have h2 := (cond_iff L).mp hc
    have hbase : base L = 968192 := by unfold base; omega
    have hBC : Disjoint (oB L).view.set oC.view.set := by
      rw [Finset.disjoint_left]; intro y h1 h2
      have h1 := (mem_oB L y).mp h1; have h2 := (mem_oC y).mp h2; omega
    have hAC : Disjoint (oA L).view.set ((oB L).view.set ∪ oC.view.set) := by
      rw [Finset.disjoint_left]; intro y h1 h2
      have h1 := (mem_oA L y).mp h1
      rcases Finset.mem_union.mp h2 with h2 | h2
      · have h2 := (mem_oB L y).mp h2; omega
      · have h2 := (mem_oC y).mp h2; omega
    have e : part (L 0).val (L 1).val = (oA L).view.set ∪ ((oB L).view.set ∪ oC.view.set) := by
      ext y
      have hP := mem_part (c := (L 0).val) (i := (L 1).val) (y := y)
      have hA := mem_oA L y
      have hB := mem_oB L y
      have hC := mem_oC y
      have hy : (y 0).val < 1000000 := (y 0).isLt
      rw [start_eq] at hP
      rw [Finset.mem_union, Finset.mem_union, hP, hA, hB, hC]
      omega
    rw [e]
    have hU : (oM.view.loc (VT d L) ↦[(oB L).view.set ∪ oC.view.set]{fullShare} f : sProp 𝕄) ⊣⊢ _ := pointsTo_union hBC
    exact (pointsTo_union hAC).trans ⟨sep_mono_right hU.1, sep_mono_right hU.2⟩
  · rw [tailAt_neg d L f hc]
    have h2 := mt (cond_iff L).mpr hc
    have e : part (L 0).val (L 1).val = (oA L).view.set ∪ (oB L).view.set := by
      ext y
      rw [Finset.mem_union]
      refine (mem_part.trans ?_).trans (or_congr (mem_oA L y) (mem_oB L y)).symm
      rw [start_eq]
      omega
    rw [e]
    refine (pointsTo_union hAB).trans ⟨sep_mono_right Laws.sep_emp.2, sep_mono_right Laws.sep_emp.1⟩

/-! ## A tile's own buffers and semaphores -/

/-- The kernel's semaphores on a tile. -/
def sems : Finset (SemLoc sig) :=
  {SemLoc.dma cc0_scratch8.sem, SemLoc.dma cc0_scratch9.sem, SemLoc.dma cc0_scratch10.sem, SemLoc.dma cc0_scratch11.sem,
    SemLoc.dma cc0_scoped0.sem, SemLoc.dma cc0_scoped1.sem, SemLoc.dma cc0_scoped2.sem, SemLoc.dma cc0_scoped3.sem,
    SemLoc.dma cc0_scoped4.sem, SemLoc.dma cc0_scoped5.sem}

/-- The kernel's scratch buffers on a tile. -/
def bufs : Finset (Ref sig .scVector) :=
  {cc0_scratch0, cc0_scratch1, cc0_scratch2, cc0_scratch3, cc0_scratch4, cc0_scratch5, cc0_scratch6, cc0_scratch7}

/-- A family over a set is the family over the image of some indices and the family over the rest. -/
theorem bigSep_image {I J : Type} [DecidableEq I] (s : Finset I) (t : Finset J) (e : J ↪ I) (h : t.map e ⊆ s) (Φ : I → sProp 𝕄) :
    bigSep s Φ = iprop((bigSep t fun j => Φ (e j)) ∗ bigSep (s \ t.map e) Φ) := by
  conv_lhs => rw [← Finset.union_sdiff_of_subset h]
  rw [show bigSep (t.map e ∪ s \ t.map e) Φ = iprop(bigSep (t.map e) Φ ∗ bigSep (s \ t.map e) Φ) from bigSep_union Finset.disjoint_sdiff,
    bigSep_map]

/-- A semaphore as a cell of the tile. -/
def cellEmb : SemLoc sig ↪ GSem nD τ sig := ⟨fun sm => (VT d L, sm), fun _ _ h => (Prod.mk.inj h).2⟩
/-- A scratch buffer as a buffer of the device. -/
def refEmb : Ref sig .scVector ↪ DevRef τ sig := ⟨(Proc.scVector (cV L) (jV L)).devRef, Proc.devRef_injective (Proc.scVector (cV L) (jV L))⟩

/-- The kernel's semaphores are among the tile's own. -/
theorem cells_sub : sems.map (cellEmb d L) ⊆ ownCells (sig := sig) (VT d L) := by
  intro g hg
  obtain ⟨sm, hsm, rfl⟩ := Finset.mem_map.mp hg
  refine mem_ownCells.mpr ⟨rfl, ?_⟩
  have : ∀ sm ∈ sems, sm.isScoped .scVector = true := by decide
  exact this sm hsm

/-- The scratch buffers are among the tile's own. -/
theorem refs_sub : bufs.map (refEmb L) ⊆ ownRefs (sig := sig) (τ := τ) (.scVector (cV L) (jV L)) := by
  intro b hb
  obtain ⟨r, hr, rfl⟩ := Finset.mem_map.mp hb
  refine SparseCore.Cfg.mem_ownRefs_of_owner (p := Proc.scVector (cV L) (jV L)) ?_
  simp only [bufs, Finset.mem_insert, Finset.mem_singleton] at hr
  rcases hr with rfl | rfl | rfl | rfl | rfl | rfl | rfl | rfl <;> rfl

/-- The semaphores the tile owns: the kernel's, at zero, and the others. -/
theorem sems_split : (ownSems0 (VT d L) : sProp 𝕄)
    = iprop(cells0 d L ∗ bigSep (ownCells (VT d L) \ sems.map (cellEmb d L)) fun g => semVal g 0) := by
  unfold SparseCore.Cfg.ownSems0
  rw [bigSep_image _ sems (cellEmb d L) (cells_sub d L)]
  congr 1
  unfold sems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The scratch of a tile, each buffer at some contents. -/
abbrev scratch : sProp 𝕄 :=
  iprop((∃ f, tabM.view.loc (VT d L) ↦{fullShare} f) ∗ (∃ f, stM.view.loc (VT d L) ↦{fullShare} f)
    ∗ (∃ f, fbM.view.loc (VT d L) ↦{fullShare} f) ∗ (∃ f, gM.view.loc (VT d L) ↦{fullShare} f)
    ∗ (∃ f, x0M.view.loc (VT d L) ↦{fullShare} f) ∗ (∃ f, x1M.view.loc (VT d L) ↦{fullShare} f)
    ∗ (∃ f, o0M.view.loc (VT d L) ↦{fullShare} f) ∗ (∃ f, o1M.view.loc (VT d L) ↦{fullShare} f))

/-- The buffers the tile owns: the kernel's scratch and the others. -/
theorem bufs_split : (ownBufs (VT d L) : sProp 𝕄)
    = iprop(scratch d L ∗ bigSep (ownRefs (τ := τ) (.scVector (cV L) (jV L)) \ bufs.map (refEmb L))
        fun b => iprop(∃ f, ((d, b) : Loc nD τ sig) ↦{fullShare} f)) := by
  unfold SparseCore.Cfg.ownBufs
  refine (bigSep_image _ bufs (refEmb L) (refs_sub L) _).trans ?_
  congr 1
  unfold bufs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The tile's run, from what the launch deals it -/

/-- The six arrays of the kernel in the device's memory. -/
abbrev fcL (d : Dev nD) : Loc nD τ sig := (SparseCore.T d).loc main_v7
/-- The weights. -/
abbrev wL (d : Dev nD) : Loc nD τ sig := (SparseCore.T d).loc main_v8
/-- The mean. -/
abbrev muL (d : Dev nD) : Loc nD τ sig := (SparseCore.T d).loc main_v9
/-- The bias. -/
abbrev bL (d : Dev nD) : Loc nD τ sig := (SparseCore.T d).loc main_arg2
/-- The points. -/
abbrev xL (d : Dev nD) : Loc nD τ sig := (SparseCore.T d).loc main_arg0
/-- The result. -/
abbrev oL (d : Dev nD) : Loc nD τ sig := (SparseCore.T d).loc main_v10

/-- The share of the arrays every tile reads that tile `i` of core `c` is dealt. -/
abbrev sh (c i : ℕ) : PosShare TreeShare := Transfers.shareTokN fullShare (i * 2 + c)

/-- The five arrays a tile reads, at its share. -/
abbrev reads (FC : Buf (Elt F) (fcL d)) (WV : Buf (Elt F) (wL d)) (MU : Buf (Elt F) (muL d))
    (BV : Buf (Elt F) (bL d)) (X : Buf (Elt F) (xL d)) (q : PosShare TreeShare) : sProp 𝕄 :=
  iprop((fcL d ↦{q} FC) ∗ (wL d ↦{q} WV) ∗ (muL d ↦{q} MU)
    ∗ (bL d ↦{q} BV) ∗ (xL d ↦{q} X))

set_option maxHeartbeats 1000000 in
/-- The body on the tile at coordinates `L`, from its read shares, its part of the result, its scratch and its
    semaphores: all of them come back, the part of the result at the value of the points. -/
theorem tile_deal [FloatOps F] (hF : (K (F := F)).Facts) (O : CellTallies nD τ sig (HIx 1)) (W : Waits sig (HIx 1)) (hO : ∀ g, O g none = 0)
    (FC : Buf (Elt F) (fcL d)) (WV : Buf (Elt F) (wL d)) (MU : Buf (Elt F) (muL d))
    (BV : Buf (Elt F) (bL d)) (X : Buf (Elt F) (xL d)) (OV : Buf (Elt F) (oL d)) :
    iprop(levAts (K (F := F)).L (K (F := F)).lev ∗ emp
        ∗ (reads d FC WV MU BV X (sh (L 0).val (L 1).val)
          ∗ (oL d ↦[part (L 0).val (L 1).val]{fullShare} OV))
        ∗ scopedBufs (VT d L) ∗ scopedSems0 (VT d L) ∗ owes (VT d L) O W)
      ⊢ (wp frame (wpE (defs₀ (F := F)) 𝒱₀ (VT d L) none) Set.univ
          (cc0__sc_body L fcM (Memref.isWhole_whole _) wM (Memref.isWhole_whole _) muM (Memref.isWhole_whole _) bM (Memref.isWhole_whole _)
            xM (Memref.isWhole_whole _) oM (Memref.isWhole_whole _) tabM (Memref.isWhole_whole _) stM (Memref.isWhole_whole _)
            fbM (Memref.isWhole_whole _) gM (Memref.isWhole_whole _) x0M (Memref.isWhole_whole _) x1M (Memref.isWhole_whole _)
            o0M (Memref.isWhole_whole _) o1M (Memref.isWhole_whole _) cc0_scratch8 cc0_scratch9 cc0_scratch10 cc0_scratch11
            cc0_scoped0 cc0_scoped1 cc0_scoped2 cc0_scoped3 cc0_scoped4 cc0_scoped5)
          fun _ => iprop((reads d FC WV MU BV X (sh (L 0).val (L 1).val)
              ∗ (oL d ↦[part (L 0).val (L 1).val]{fullShare} (result (table FC WV MU BV) X : Vec F S1000000 .f32)))
            ∗ scopedBufs (VT d L) ∗ scopedSems0 (VT d L)
            ∗ ∃ W' : Waits sig (HIx 1), ⌜∀ p ∈ W', p ∈ W ∨ p.2 = none⌝ ∗ owes (VT d L) O W') : sProp 𝕄) := by
  rw [(K (F := F)).scopedBufs_V hF d (cV L) (jV L), SparseCore.Cfg.scopedSems0_V (Val := Elt F) d (cV L) (jV L), sems_split, bufs_split]
  iintro ⟨#Hlv, -, ⟨⟨Hfc, Hw, Hmu, Hb, Hx⟩, Ho⟩,
    ⟨⟨⟨%s0, H0⟩, ⟨%s1, H1⟩, ⟨%s2, H2⟩, ⟨%s3, H3⟩, ⟨%s4, H4⟩, ⟨%s5, H5⟩, ⟨%s6, H6⟩, %s7, H7⟩, Hbufs⟩, ⟨Hc, Hsems⟩, HO⟩
  ihave Hmw := (show levAts (K (F := F)).L (K (F := F)).lev ⊢ Transfers.MayWaits (VT d L) (default : HIx 1) O from
    (K (F := F)).mayWaits_none (thr := VT d L) hO) $$ Hlv
  ihave Hos := (part_split (F := F) d L OV).1 $$ Ho
  icases Hos with ⟨HoA, HoB, HoC⟩
  iapply (Idealize.SL.Sem.wp_wand frame (wpE (defs₀ (F := F)) 𝒱₀ (VT d L) none) Set.univ) $$ [Hfc Hw Hmu Hb Hx HoA HoB HoC H0 H1 H2 H3 H4 H5 H6 H7 Hc HO]
  · iapply (tile_run d L (sh (L 0).val (L 1).val) O W FC WV MU BV X OV s0 s1 s2 s3 s4 s5 s6 s7)
    isplitr; · iexact Hmw
    isplitl [Hfc]; · iexact Hfc
    isplitl [Hw]; · iexact Hw
    isplitl [Hmu]; · iexact Hmu
    isplitl [Hb]; · iexact Hb
    isplitl [Hx]; · iexact Hx
    isplitl [HoA]; · iexact HoA
    isplitl [HoB]; · iexact HoB
    isplitl [HoC]; · iexact HoC
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hc]; · iexact Hc
    iexact HO
  iintro %_ ⟨Hfc, Hw, Hmu, Hb, Hx, HoA, HoB, HoC, H0, H1, H2, H3, H4, H5, H6, H7, Hc, HO⟩
  isplitl [Hfc Hw Hmu Hb Hx HoA HoB HoC]
  · isplitl [Hfc Hw Hmu Hb Hx]
    · isplitl [Hfc]; · iexact Hfc
      isplitl [Hw]; · iexact Hw
      isplitl [Hmu]; · iexact Hmu
      isplitl [Hb]; · iexact Hb
      iexact Hx
    iapply (part_split (F := F) d L _).2
    isplitl [HoA]; · iexact HoA
    isplitl [HoB]; · iexact HoB
    iexact HoC
  isplitl [H0 H1 H2 H3 H4 H5 H6 H7 Hbufs]
  · isplitr [Hbufs]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact Hbufs
  isplitl [Hc Hsems]
  · isplitl [Hc]; · iexact Hc
    iexact Hsems
  iexact HO

end Tile

end Cert.Proof.Spline

end
-- ==== Proof.Launch.lean ====
/-
  The launch: the program's host operations before and after the call, what the call hands the tiles and takes back, and
  the run of the whole program with the value of its result, at any float values and operations.
-/
module

public import proofs.«01_k».proof.Proof.Deal
public import Idealize.ShloMosaic.Lib.Pipeline.Frame

@[expose] public section

noncomputable section

namespace Cert.Proof.Spline

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_hlo_within wp_seq after seq seqK seq_bind_seqK launchContents)

variable {F : FTy → Type} [FloatOps F]

local notation "𝕄" => MT nD τ sig (HIx 1) (Elt F) ℕ UU ℕ

/-! ## The host operations -/

/-- Before the call: the packed table from its numerators, the weights and the mean as vectors. -/
abbrev preOps : List (HloOp τ sig (Elt F)) :=
  [StableHlo.nullary main_c (fun i => lit0 (S176.rowMajor i)),
    StableHlo.unary main_c main_v0 (sitofp .f32 : (⟨S176, .i32⟩ : BufTy).Contents (Elt F) → (⟨S176, .f32⟩ : BufTy).Contents (Elt F)),
    StableHlo.unary main_v0 main_v1 ((extractStridedSlice S160 ![0] · slices_S176_S160_0) : (⟨S176, .f32⟩ : BufTy).Contents (Elt F) → (⟨S160, .f32⟩ : BufTy).Contents (Elt F)),
    StableHlo.nullary main_cst (constant S_ .f32 0x471E6100#32),
    StableHlo.unary main_cst main_v2 (broadcastInDim S160 ![] bcast_S_S160 : (⟨S_, .f32⟩ : BufTy).Contents (Elt F) → (⟨S160, .f32⟩ : BufTy).Contents (Elt F)),
    StableHlo.binary main_v1 main_v2 main_v3 (Host.divf : (⟨S160, .f32⟩ : BufTy).Contents (Elt F) → (⟨S160, .f32⟩ : BufTy).Contents (Elt F) → (⟨S160, .f32⟩ : BufTy).Contents (Elt F)),
    StableHlo.unary main_v0 main_v4 ((extractStridedSlice S16 ![160] · slices_S176_S16_160) : (⟨S176, .f32⟩ : BufTy).Contents (Elt F) → (⟨S16, .f32⟩ : BufTy).Contents (Elt F)),
    StableHlo.nullary main_cst_0 (constant S_ .f32 0x43F30000#32),
    StableHlo.unary main_cst_0 main_v5 (broadcastInDim S16 ![] bcast_S_S16 : (⟨S_, .f32⟩ : BufTy).Contents (Elt F) → (⟨S16, .f32⟩ : BufTy).Contents (Elt F)),
    StableHlo.binary main_v4 main_v5 main_v6 (Host.divf : (⟨S16, .f32⟩ : BufTy).Contents (Elt F) → (⟨S16, .f32⟩ : BufTy).Contents (Elt F) → (⟨S16, .f32⟩ : BufTy).Contents (Elt F)),
    StableHlo.binary main_v3 main_v6 main_v7 ((fun a b => concatenate S176 0 [⟨S160, a⟩, ⟨S16, b⟩] concatenates_S160_S16_S176_d0) : (⟨S160, .f32⟩ : BufTy).Contents (Elt F) → (⟨S16, .f32⟩ : BufTy).Contents (Elt F) → (⟨S176, .f32⟩ : BufTy).Contents (Elt F)),
    StableHlo.reshape main_arg1 main_v8 (rfl : (.f32 : EltTy) = .f32) shapeCasts_S1x10_S10,
    StableHlo.reshape main_arg3 main_v9 (rfl : (.f32 : EltTy) = .f32) shapeCasts_S1x10_S10]

/-- After the call: the result as a column. -/
abbrev postOp : HloOp τ sig (Elt F) :=
  StableHlo.unary main_v10 main_v11 (broadcastInDim S1000000x1 ![0] bcast_S1000000_S1000000x1_0 : (⟨S1000000, .f32⟩ : BufTy).Contents (Elt F) → (⟨S1000000x1, .f32⟩ : BufTy).Contents (Elt F))

/-- The program is its operations before the call, the call, and the one operation after it. -/
theorem main_eq (d : Dev nD) : main (F := F) d
    = (seq preOps >>= fun _ => ((K (F := F)).run d 0 >>= fun _ => (hlo rfl postOp fun _ => .ret (⟨⟩ : PUnit)) >>= fun _ => pure ⟨⟩)) :=
  (seq_bind_seqK _ _).symm ▸ rfl

variable (m : (ℓ : Loc nD τ sig) → Buf (Elt F) ℓ) (ρ : Dev nD → PrngReg)

/-- What the device's buffers hold when the call starts. -/
abbrev V1 (d : Dev nD) : Valuation τ sig (Elt F) := after preOps (launchContents m d)

/-- A buffer of the TensorCore as a buffer of the device. -/
abbrev tcRef (b : Ref sig .tc) : DevRef τ sig := Proc.devRef .tc b

/-- The result of the call: every point's value. -/
abbrev outV (d : Dev nD) : Vec F S1000000 .f32 :=
  result (table (V1 m d (tcRef main_v7)) (V1 m d (tcRef main_v8)) (V1 m d (tcRef main_v9)) (V1 m d (tcRef main_arg2)))
    (V1 m d (tcRef main_arg0))

/-! ## What the call hands the tiles -/

/-- What tile `i` of core `c` is dealt, its part of the result at `f`. -/
abbrev deal (d : Dev nD) (f : Buf (Elt F) (oL d)) (c i : ℕ) : sProp 𝕄 :=
  iprop(reads d (V1 m d (tcRef main_v7)) (V1 m d (tcRef main_v8)) (V1 m d (tcRef main_v9)) (V1 m d (tcRef main_arg2))
      (V1 m d (tcRef main_arg0)) (sh c i)
    ∗ (oL d ↦[part c i]{fullShare} f))

/-- What core `c` is dealt: its tiles'. -/
abbrev deals (d : Dev nD) (f : Buf (Elt F) (oL d)) (c : ℕ) : sProp 𝕄 :=
  bigSep Finset.univ fun i : Fin 16 => deal m d f c i

/-- The call runs on 16 tiles of a core. -/
theorem nSub_zero : (K (F := F)).nSub 0 = 16 := rfl
/-- The call runs on two cores. -/
theorem nCore_zero : (K (F := F)).nCore 0 = 2 := rfl

/-- The one call takes each core its tiles' dealings and brings them back with the result in place. -/
def P : (K (F := F)).Pay (nD := nD) (Val := Elt F) (Name := ℕ) (U := UU) where
  st := fun q d c => match q with | 0 => deals m d (V1 m d (tcRef main_v10)) c.val
  dn := fun q d c => match q with | 0 => deals m d (outV m d) c.val
  go := fun q d c i => match q with | 0 => deal m d (V1 m d (tcRef main_v10)) c.val i.val
  td := fun q d c i => match q with | 0 => deal m d (outV m d) c.val i.val
  x := fun _ _ => iprop(emp)

/-- What the call hands over can be kept in an invariant. -/
instance P_storable : (P (F := F) m).IsStorable where
  st q d c := match q with
    | 0 => (inferInstance : BI.Storable (upEmb : UEmb _ 𝕄) (deals m d (V1 m d (tcRef main_v10)) c.val))
  dn q d c := match q with
    | 0 => (inferInstance : BI.Storable (upEmb : UEmb _ 𝕄) (deals m d (outV m d) c.val))
  go q d c i := match q with
    | 0 => (inferInstance : BI.Storable (upEmb : UEmb _ 𝕄) (deal m d (V1 m d (tcRef main_v10)) c.val i.val))
  td q d c i := match q with
    | 0 => (inferInstance : BI.Storable (upEmb : UEmb _ 𝕄) (deal m d (outV m d) c.val i.val))

/-- A core's dealings are its tiles', as the launch counts them. -/
theorem vecSplit : (K (F := F)).VecSplit' (P m) 0 := by
  intro d c
  show deals m d (V1 m d (tcRef main_v10)) c.val ⊢ |={Set.univ}=> iprop(
      (bigSep Finset.univ fun i : Fin 16 => deal m d (V1 m d (tcRef main_v10)) c.val i.val)
      ∗ ((bigSep Finset.univ fun i : Fin 16 => deal m d (outV m d) c.val i.val) -∗ deals m d (outV m d) c.val))
  iintro H; imodintro
  isplitl [H]; · iexact H
  iintro H; iexact H

/-! ## The tile obligation -/

/-- A tile's coordinates in the kernel's grid. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs is the kernel's body at its coordinates. -/
theorem defs₀_vector (c : Fin τ.nSC) (s : Fin τ.nSub) :
    defs₀ (F := F) (.scVector c s) 0 ()
      = SparseCore.onTile hcore0 hsub0 (fun c s => cc0__sc_body (coordsV c s)
          fcM (Memref.isWhole_whole _) wM (Memref.isWhole_whole _) muM (Memref.isWhole_whole _) bM (Memref.isWhole_whole _)
          xM (Memref.isWhole_whole _) oM (Memref.isWhole_whole _) tabM (Memref.isWhole_whole _) stM (Memref.isWhole_whole _)
          fbM (Memref.isWhole_whole _) gM (Memref.isWhole_whole _) x0M (Memref.isWhole_whole _) x1M (Memref.isWhole_whole _)
          o0M (Memref.isWhole_whole _) o1M (Memref.isWhole_whole _) cc0_scratch8 cc0_scratch9 cc0_scratch10 cc0_scratch11
          cc0_scoped0 cc0_scoped1 cc0_scoped2 cc0_scoped3 cc0_scoped4 cc0_scoped5) ⟨⟩ c s := rfl

/-- The waits a tile records are among those its obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call runs from what it is dealt to what it gives back. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_deal d (coordsV ⟨_, hci.1⟩ ⟨_, hci.2⟩) hF O W hO _ _ _ _ _ _).trans (wp_mono frame _ _ fun _ => obl_post)

/-! ## The arrays dealt and collected -/

omit [FloatOps F] in
/-- An array held whole is what stays behind and a read share for every tile. -/
theorem toks_split {ℓ : Loc nD τ sig} (f : Buf (Elt F) ℓ) :
    (ℓ ↦{fullShare} f : sProp 𝕄) = iprop((ℓ ↦{Transfers.shareDrop fullShare 32} f)
      ∗ bigSep Finset.univ fun c : Fin 2 => bigSep Finset.univ fun i : Fin 16 => ℓ ↦{sh c.val i.val} f) := by
  have h : (ℓ ↦{fullShare} f : sProp 𝕄) ⊣⊢ _ := Transfers.pointsTo_toks (S := Finset.univ) (f := f) fullShare (16 * 2)
  refine (BI.equiv_iff.mp ⟨h.1, h.2⟩).trans ?_
  congr 1
  rw [bigSep_univ_equiv (finProdFinEquiv (m := 16) (n := 2)), bigSep_univ_prod, bigSep_univ_comm]
  refine bigSep_congr fun c _ => bigSep_congr fun i _ => ?_
  have e : (finProdFinEquiv (i, c)).val = i.val * 2 + c.val := by
    rw [finProdFinEquiv_apply_val]; dsimp only; omega
  unfold Transfers.shareTok sh
  rw [e]

omit [FloatOps F] in
/-- The result held whole is the tiles' parts of it. -/
theorem parts_split (d : Dev nD) (f : Buf (Elt F) (oL d)) :
    (oL d ↦{fullShare} f : sProp 𝕄)
      = bigSep Finset.univ fun c : Fin 2 => bigSep Finset.univ fun i : Fin 16 => oL d ↦[part c.val i.val]{fullShare} f := by
  rw [← bigSep_univ_prod (fun p : Fin 2 × Fin 16 => (oL d ↦[part p.1.val p.2.val]{fullShare} f : sProp 𝕄)),
    ← pointsTo_biUnion Finset.univ (ℓ := oL d) (fun p : Fin 2 × Fin 16 => part p.1.val p.2.val)
      (fun p _ p' _ h => part_disjoint p p' h), part_cover]

/-- The six arrays held whole are what stays behind of the five and what the two cores are dealt. -/
theorem deal_split (d : Dev nD) (f : Buf (Elt F) (oL d)) :
    iprop(reads d (V1 m d (tcRef main_v7)) (V1 m d (tcRef main_v8)) (V1 m d (tcRef main_v9)) (V1 m d (tcRef main_arg2))
        (V1 m d (tcRef main_arg0)) fullShare ∗ (oL d ↦{fullShare} f))
      ⊣⊢ (iprop(reads d (V1 m d (tcRef main_v7)) (V1 m d (tcRef main_v8)) (V1 m d (tcRef main_v9)) (V1 m d (tcRef main_arg2))
          (V1 m d (tcRef main_arg0)) (Transfers.shareDrop fullShare 32)
        ∗ bigSep Finset.univ fun c : Fin 2 => deals m d f c.val) : sProp 𝕄) := by
  unfold deals deal reads
  simp only [bigSep_sep']
  rw [toks_split (ℓ := fcL d), toks_split (ℓ := wL d), toks_split (ℓ := muL d), toks_split (ℓ := bL d), toks_split (ℓ := xL d),
    parts_split d f]
  constructor
  · iintro ⟨⟨⟨A0, A1⟩, ⟨B0, B1⟩, ⟨C0, C1⟩, ⟨D0, D1⟩, E0, E1⟩, Ho⟩
    isplitl [A0 B0 C0 D0 E0]
    · isplitl [A0]; · iexact A0
      isplitl [B0]; · iexact B0
      isplitl [C0]; · iexact C0
      isplitl [D0]; · iexact D0
      iexact E0
    isplitr [Ho]
    · isplitl [A1]; · iexact A1
      isplitl [B1]; · iexact B1
      isplitl [C1]; · iexact C1
      isplitl [D1]; · iexact D1
      iexact E1
    iexact Ho
  · iintro ⟨⟨A0, B0, C0, D0, E0⟩, ⟨A1, B1, C1, D1, E1⟩, Ho⟩
    isplitr [Ho]
    · isplitl [A0 A1]
      · isplitl [A0]; · iexact A0
        iexact A1
      isplitl [B0 B1]
      · isplitl [B0]; · iexact B0
        iexact B1
      isplitl [C0 C1]
      · isplitl [C0]; · iexact C0
        iexact C1
      isplitl [D0 D1]
      · isplitl [D0]; · iexact D0
        iexact D1
      isplitl [E0]; · iexact E0
      iexact E1
    iexact Ho

/-! ## The launch element -/

/-- The ghost state the launch starts from: the handshakes', and no counter drawn. -/
def u₀ : UU := (initOf (K (F := F)).hsCells (K (F := F)).hsToks, 1)

omit [FloatOps F] in
/-- Nothing, however often, is nothing. -/
theorem bigSep_nothing {I : Type} (s : Finset I) : (bigSep s fun _ => iprop(emp)) = (iprop(emp) : sProp 𝕄) := bigSep_emp_const s

/-- The starting ghost state gives the handshakes' state, and nothing else is needed. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr)
      = bigSep Finset.univ fun _ => iprop(emp) from bigSep_congr fun _ _ => bigSep_univ_of_subsingleton (0 : Fin 1), bigSep_nothing]
  iempintro

/-! ## The program on the TensorCore -/

/-- The unscoped buffers of the TensorCore. -/
abbrev uc : Finset (DevRef τ sig) := Pipeline.ucRefs τ sig

/-- The arrays of the call. -/
abbrev six : Finset (DevRef τ sig) :=
  {tcRef main_v7, tcRef main_v8, tcRef main_v9, tcRef main_arg2, tcRef main_arg0, tcRef main_v10}

omit [FloatOps F] in
/-- The arrays of the call are buffers of the TensorCore. -/
theorem six_sub : six ⊆ uc := by decide

omit [FloatOps F] in
/-- Holding the arrays of the call is holding each of the six. -/
theorem held_six (d : Dev nD) (W : Valuation τ sig (Elt F)) : (held (SparseCore.T d) six W : sProp 𝕄)
    = iprop((fcL d ↦{fullShare} W (tcRef main_v7)) ∗ (wL d ↦{fullShare} W (tcRef main_v8)) ∗ (muL d ↦{fullShare} W (tcRef main_v9))
        ∗ (bL d ↦{fullShare} W (tcRef main_arg2)) ∗ (xL d ↦{fullShare} W (tcRef main_arg0)) ∗ (oL d ↦{fullShare} W (tcRef main_v10))) := by
  unfold held
  rw [SparseCore.bigSep_insert' (by decide), SparseCore.bigSep_insert' (by decide), SparseCore.bigSep_insert' (by decide),
    SparseCore.bigSep_insert' (by decide), SparseCore.bigSep_insert' (by decide), bigSep_singleton]

/-- What the device's buffers hold after the call, and after the last operation. -/
abbrev V2 (d : Dev nD) : Valuation τ sig (Elt F) := Function.update (V1 m d) (tcRef main_v10) (outV m d)
/-- What they hold after the last operation. -/
abbrev V3 (d : Dev nD) : Valuation τ sig (Elt F) := (postOp (F := F)).result (V2 m d)

/-- The call changes no buffer but its result's. -/
theorem V2_of_ne (d : Dev nD) {b : DevRef τ sig} (h : b ≠ tcRef main_v10) : V2 m d b = V1 m d b := Function.update_of_ne h _ _
/-- The call leaves its result in its buffer. -/
theorem V2_out (d : Dev nD) : V2 m d (tcRef main_v10) = outV m d := Function.update_self _ _ _

/-- The operations before the call use buffers of the TensorCore alone. -/
theorem preOps_sub : ∀ op ∈ preOps (F := F), op.bufs ⊆ uc := by
  intro op h
  simp only [preOps, List.mem_cons, List.not_mem_nil, or_false] at h
  rcases h with rfl | rfl | rfl | rfl | rfl | rfl | rfl | rfl | rfl | rfl | rfl | rfl | rfl
  all_goals first
    | exact show ({_} : Finset (DevRef τ sig)) ⊆ uc by decide
    | exact show ({_, _} : Finset (DevRef τ sig)) ⊆ uc by decide
    | exact show ({_, _, _} : Finset (DevRef τ sig)) ⊆ uc by decide

/-- The operations before the call take no new buffers. -/
theorem preOps_fresh : ∀ op ∈ preOps (F := F), op.fresh = ∅ := by
  intro op h
  simp only [preOps, List.mem_cons, List.not_mem_nil, or_false] at h
  rcases h with rfl | rfl | rfl | rfl | rfl | rfl | rfl | rfl | rfl | rfl | rfl | rfl | rfl <;> rfl

/-- The operation after the call uses buffers of the TensorCore alone. -/
theorem postOp_sub : (postOp (F := F)).bufs ⊆ uc := show ({tcRef main_v10, tcRef main_v11} : Finset (DevRef τ sig)) ⊆ uc by decide

/-- What the program leaves: every buffer at its last contents. -/
abbrev FIN (d : Dev nD) : sProp 𝕄 := held (SparseCore.T d) uc (V3 m d)

/-- What the call hands out is each core's dealings with the result still unwritten. -/
theorem st_eq (d : Dev nD) : (bigSep Finset.univ fun c : Fin ((K (F := F)).nCore 0) => (P m).st 0 d c)
    = bigSep Finset.univ fun c : Fin 2 => deals m d (V1 m d (tcRef main_v10)) c.val := rfl
/-- What the call takes back is each core's dealings with the result in place. -/
theorem dn_eq (d : Dev nD) : (bigSep Finset.univ fun c : Fin ((K (F := F)).nCore 0) => (P m).dn 0 d c)
    = bigSep Finset.univ fun c : Fin 2 => deals m d (outV m d) c.val := rfl

/-- The TensorCore's program: the host operations, the call, the last operation. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = (held (SparseCore.T d) uc (launchContents m d) : sProp 𝕄) from
    Pipeline.unscopedBufs_held d (launchContents m d), main_eq]
  iintro ⟨#Hctx, Hst, ⟨Hb, Hheld, Hts, -⟩, -⟩
  iapply (wp_seq 𝒱 none Set.univ d uc _ preOps preOps_sub preOps_fresh (launchContents m d)) $$ [Hb Hheld]
  · isplitl [Hb]; · iexact Hb
    iexact Hheld
  iintro ⟨Hb, Hheld⟩
  simp only [wp_bind, wp_pure]
  ihave Hs := (Entails.of_eq (held_sub_split (SparseCore.T d) six_sub (V1 m d))) $$ Hheld
  icases Hs with ⟨Hsix, Hrest⟩
  ihave Hsix := (Entails.of_eq (held_six d (V1 m d))) $$ Hsix
  icases Hsix with ⟨H7, H8, H9, H2, H0, H10⟩
  ihave Hd := (deal_split m d (V1 m d (tcRef main_v10))).1 $$ [H7 H8 H9 H2 H0 H10]
  · isplitr [H10]
    · isplitl [H7]; · iexact H7
      isplitl [H8]; · iexact H8
      isplitl [H9]; · iexact H9
      isplitl [H2]; · iexact H2
      iexact H0
    iexact H10
  icases Hd with ⟨Hkeep, Hdeals⟩
  iapply ((K (F := F)).wp_run (D (F := F)) 𝒱 (EH := EH) (P := P m) κ d 0) $$ [Hst Hdeals Hb Hkeep Hrest Hts]
  isplitr; · iexact Hctx
  isplitl [Hst]; · iexact Hst
  isplitl [Hdeals]; · rw [st_eq]; iexact Hdeals
  iintro ⟨Hst, Hdn⟩
  ihave Hdn := (Entails.of_eq (dn_eq m d)) $$ Hdn
  ihave Hall := (deal_split m d (outV m d)).2 $$ [Hkeep Hdn]
  · isplitl [Hkeep]; · iexact Hkeep
    iexact Hdn
  icases Hall with ⟨⟨H7, H8, H9, H2, H0⟩, H10⟩
  ihave Hrest := (Entails.of_eq (held_congr (SparseCore.T d) (S := uc \ six) (V := V1 m d) (V' := V2 m d) ?h)) $$ Hrest
  case h =>
    intro b hb
    exact (V2_of_ne m d fun e => (Finset.mem_sdiff.mp hb).2 (by rw [e]; decide)).symm
  iapply (wp_hlo_within 𝒱 (SparseCore.T d) none Set.univ (op := postOp) (S := uc) postOp_sub (V := V2 m d)) $$ [Hb H7 H8 H9 H2 H0 H10 Hrest]
  · isplitl [Hb]; · iexact Hb
    rw [held_sub_split (SparseCore.T d) six_sub (V2 m d), held_six d (V2 m d), V2_out,
      V2_of_ne m d (b := tcRef main_v7) (by decide), V2_of_ne m d (b := tcRef main_v8) (by decide),
      V2_of_ne m d (b := tcRef main_v9) (by decide), V2_of_ne m d (b := tcRef main_arg2) (by decide),
      V2_of_ne m d (b := tcRef main_arg0) (by decide)]
    isplitr [Hrest]
    · isplitl [H7]; · iexact H7
      isplitl [H8]; · iexact H8
      isplitl [H9]; · iexact H9
      isplitl [H2]; · iexact H2
      isplitl [H0]; · iexact H0
      iexact H10
    iexact Hrest
  iintro ⟨Hb, Hheld⟩
  rw [wp_ret]; imodintro; imodintro
  isplitl [Hst]; · iexact Hst
  isplitl [Hheld]; · iexact Hheld
  isplitl [Hb]; · iexact Hb
  iexact Hts

/-- What the claims read off the final memory: every unscoped buffer's contents. -/
def fq (d : Dev nD) (s' : Phys nD τ sig (Elt F)) : Prop := ∀ b ∈ uc, s'.mem.mem (d, b) = V3 m d b

/-- The final memory holds what the program leaves. -/
theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) uc) $$ [HSI H]
  · isplitl [HSI]
    · iexact HSI
    iexact H
  ipureintro
  exact h

/-- The whole program: every run ends, each buffer of the TensorCore at its last contents and every semaphore at zero. -/
theorem run_all [∀ e, Nonempty (Elt F e)] :
    θ_run (Cert.KernelIdeal.defs (F := F)) (Cert.KernelIdeal.threads (F := F)) ⟨m, fun _ => 0, ρ⟩
      fun r => (∀ d : Dev nD, ∀ b ∈ uc, r.2.mem (d, b) = V3 m d b) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.Proof.Spline

end
-- ==== Proof.Frames.lean ====
/-
  The run of the program read at its arguments and its result: every run ends, the arguments are as they were, the
  semaphores are at zero and the result is the column of the points' values.
-/
module

public import proofs.«01_k».proof.Proof.Launch
public import proofs.«01_k».proof.Defs
public import proofs.«01_k».proof.Proof.Gen.Kernel

@[expose] public section

noncomputable section

namespace Cert.Proof.Spline

open Cert.KernelIdeal Cert.KernelIdeal.Gen
open Idealize.ShloMosaic Idealize.SL.Sem
open Idealize.ShloMosaic.TcCoe
open Idealize.ShloMosaic.StableHlo

variable {F : FTy → Type} [FloatOps F]
variable (m : (ℓ : Loc nD τ sig) → Buf (Elt F) ℓ) (ρ : Dev nD → PrngReg)

/-! ## The buffers the host operations leave alone -/

/-- The operations before the call leave the points. -/
theorem V1_arg0 (d : Dev nD) : V1 m d (tcRef main_arg0) = m (d, tcRef main_arg0) := by unfold V1; after_results
/-- They leave the weights. -/
theorem V1_arg1 (d : Dev nD) : V1 m d (tcRef main_arg1) = m (d, tcRef main_arg1) := by unfold V1; after_results
/-- They leave the bias. -/
theorem V1_arg2 (d : Dev nD) : V1 m d (tcRef main_arg2) = m (d, tcRef main_arg2) := by unfold V1; after_results
/-- They leave the mean. -/
theorem V1_arg3 (d : Dev nD) : V1 m d (tcRef main_arg3) = m (d, tcRef main_arg3) := by unfold V1; after_results

/-- The packed table the program makes of its numerators. -/
def packed : Vec F S176 .f32 :=
  concatenate S176 0
    [⟨S160, Host.divf (extractStridedSlice S160 ![0] (sitofp .f32 (fun i => lit0 (S176.rowMajor i)) : Vec F S176 .f32) slices_S176_S160_0)
        (broadcastInDim S160 ![] bcast_S_S160 (constant S_ .f32 0x471E6100#32))⟩,
      ⟨S16, Host.divf (extractStridedSlice S16 ![160] (sitofp .f32 (fun i => lit0 (S176.rowMajor i)) : Vec F S176 .f32) slices_S176_S16_160)
        (broadcastInDim S16 ![] bcast_S_S16 (constant S_ .f32 0x43F30000#32))⟩] concatenates_S160_S16_S176_d0

/-- The call is given the packed table. -/
theorem V1_fc (d : Dev nD) : V1 m d (tcRef main_v7) = (packed : Vec F S176 .f32) := by
  unfold V1 packed; after_results; rfl
/-- It is given the weights as a vector. -/
theorem V1_w (d : Dev nD) : V1 m d (tcRef main_v8) = shapeCast S10 (m (d, tcRef main_arg1)) shapeCasts_S1x10_S10 := by
  unfold V1; after_results; rfl
/-- It is given the mean as a vector. -/
theorem V1_mu (d : Dev nD) : V1 m d (tcRef main_v9) = shapeCast S10 (m (d, tcRef main_arg3)) shapeCasts_S1x10_S10 := by
  unfold V1; after_results; rfl

/-- The call and the operation after it change the result's two buffers alone. -/
theorem V3_of_ne (d : Dev nD) {b : Ref sig .tc} (h : b ≠ main_v11) (h' : b ≠ main_v10) : V3 m d (tcRef b) = V1 m d (tcRef b) := by
  unfold V3 postOp
  rw [unary_result_ne' _ _ _ _ h]
  exact V2_of_ne m d (fun e => h' (Proc.devRef_injective _ e))

/-- The column of the points' values. -/
def column (x : Vec F S1000000 .f32) (W : Vec F S1x10 .f32) (b : Vec F S1 .f32) (mean : Vec F S1x10 .f32) : Vec F S1000000x1 .f32 :=
  broadcastInDim S1000000x1 ![0] bcast_S1000000_S1000000x1_0
    (result (table packed (shapeCast S10 W shapeCasts_S1x10_S10) (shapeCast S10 mean shapeCasts_S1x10_S10) b) x)

/-- The program's result is the column of the points' values. -/
theorem V3_out (d : Dev nD) : V3 m d (tcRef main_v11)
    = column (m (d, tcRef main_arg0)) (m (d, tcRef main_arg1)) (m (d, tcRef main_arg2)) (m (d, tcRef main_arg3)) := by
  unfold V3 postOp column
  rw [unary_result', V2_out]
  unfold outV
  rw [V1_fc, V1_w, V1_mu, V1_arg2, V1_arg0]

/-- Every run ends, with the column of the points' values, the arguments unchanged and every semaphore at zero. -/
theorem run_main [∀ e, Nonempty (Elt F e)] :
    θ_run (Cert.KernelIdeal.defs (F := F)) (Cert.KernelIdeal.threads (F := F)) ⟨m, fun _ => 0, ρ⟩ fun r => (∀ c : Dev nD,
      r.2.mem ((c.tc : Thread nD τ).loc main_v11)
        = column (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 := by
  refine (θ_run _ _ _).mono (fun r h => ⟨fun c => ⟨?_, ?_, ?_, ?_, ?_⟩, h.2⟩) (run_all m ρ)
  · exact (h.1 c (tcRef main_v11) (by decide)).trans (V3_out m c)
  · exact (h.1 c (tcRef main_arg0) (by decide)).trans ((V3_of_ne m c (by decide) (by decide)).trans (V1_arg0 m c))
  · exact (h.1 c (tcRef main_arg1) (by decide)).trans ((V3_of_ne m c (by decide) (by decide)).trans (V1_arg1 m c))
  · exact (h.1 c (tcRef main_arg2) (by decide)).trans ((V3_of_ne m c (by decide) (by decide)).trans (V1_arg2 m c))
  · exact (h.1 c (tcRef main_arg3) (by decide)).trans ((V3_of_ne m c (by decide) (by decide)).trans (V1_arg3 m c))

end Cert.Proof.Spline

namespace Cert.Proof

open Idealize.ShloMosaic Idealize.SL.Sem

/-- The kernel over the reals: it runs, leaves its arguments and every semaphore at zero. -/
theorem frame_ideal : Cert.quiescent_KernelIdeal :=
  fun m ρ _ => (θ_run Cert.KernelIdeal.defs _ _).mono (fun _ h => ⟨fun c => (h.1 c).2, h.2⟩) (Spline.run_main (F := Ideal) m ρ)

/-- The kernel as printed: the same run at its words. -/
theorem frame_kernel : Cert.quiescent_Kernel :=
  fun m ρ _ => (θ_run Cert.KernelIdeal.defs _ _).mono (fun _ h => ⟨fun c => (h.1 c).2, h.2⟩) (Spline.run_main (F := Bits) m ρ)

end Cert.Proof

end
-- ==== Proof.Reference.lean ====
/-
  The reference's run: it ends, leaves its arguments as they were, and has no semaphore to leave at zero.
-/
module

public import proofs.«01_k».proof.Proof.Gen.ReferenceIdeal.Run
public import proofs.«01_k».proof.Defs
public import Idealize.ShloMosaic.Lib.Quiescent

@[expose] public section

noncomputable section

namespace Cert.Proof

open Idealize.ShloMosaic Idealize.SL.Sem

/-- The reference over the reals: it runs and leaves its arguments; it has no semaphore. -/
theorem frame_reference : Cert.quiescent_ReferenceIdeal :=
  fun m ρ _ => (θ_run Cert.ReferenceIdeal.defs _ _).mono
    (fun r h => ⟨fun c => (h c).2, sem_eq_zero_of_no_sems (by decide) r.2⟩) (Cert.ReferenceIdeal.Value.run (F := Ideal) m ρ)

end Cert.Proof

end
-- ==== Proof.Reals.lean ====
/-
  The literals of the two programs as real numbers, and division over the extended reals at real numbers.
-/
module

public import Idealize.ShloMosaic.Lib.Pointwise
public import Idealize.ShloMosaic.Lib.Tactic.CleanTypes

@[expose] public section

noncomputable section

namespace Cert.Proof.Spline

open Idealize.ShloMosaic

/-! ## Literals -/

/-- The literal two with a minus sign. -/
theorem lit_neg_two : Ideal.ofBits .f32 0xC0000000#32 = ((-2 : ℝ) : EReal) := by
  simp [Ideal.ofBits, Ideal.ieee, -EReal.coe_mul, -EReal.coe_neg]; norm_num

/-- The literal one with a minus sign. -/
theorem lit_neg_one : Ideal.ofBits .f32 0xBF800000#32 = ((-1 : ℝ) : EReal) := by
  simp [Ideal.ofBits, Ideal.ieee, -EReal.coe_mul, -EReal.coe_neg]; norm_num

/-- The literal one. -/
theorem lit_one : Ideal.ofBits .f32 0x3F800000#32 = ((1 : ℝ) : EReal) := by
  simp [Ideal.ofBits, Ideal.ieee, -EReal.coe_mul]; norm_num

/-- The literal zero. -/
theorem lit_zero : Ideal.ofBits .f32 0x00000000#32 = ((0 : ℝ) : EReal) := by
  simp [Ideal.ofBits, Ideal.ieee]

/-- The literal three. -/
theorem lit_three : Ideal.ofBits .f32 0x40400000#32 = ((3 : ℝ) : EReal) := by
  simp [Ideal.ofBits, Ideal.ieee, -EReal.coe_mul]; norm_num

/-- The literal six. -/
theorem lit_six : Ideal.ofBits .f32 0x40C00000#32 = ((6 : ℝ) : EReal) := by
  simp [Ideal.ofBits, Ideal.ieee, -EReal.coe_mul]; norm_num

/-- The literal nine. -/
theorem lit_nine : Ideal.ofBits .f32 0x41100000#32 = ((9 : ℝ) : EReal) := by
  simp [Ideal.ofBits, Ideal.ieee, -EReal.coe_mul]; norm_num

/-- The literal 486: the denominator of the cubics' common factor. -/
theorem lit_486 : Ideal.ofBits .f32 0x43F30000#32 = ((486 : ℝ) : EReal) := by
  simp [Ideal.ofBits, Ideal.ieee, -EReal.coe_mul]; norm_num

/-- The literal 40545: the common denominator of the second derivatives. -/
theorem lit_40545 : Ideal.ofBits .f32 0x471E6100#32 = ((40545 : ℝ) : EReal) := by
  simp [Ideal.ofBits, Ideal.ieee, -EReal.coe_mul]; norm_num

/-- The literal plus infinity. -/
theorem lit_top : Ideal.ofBits .f32 0x7F800000#32 = (⊤ : EReal) := by
  simp [Ideal.ofBits, Ideal.ieee]

/-- A quotient of real numbers is the real quotient. -/
theorem div_real (x y : ℝ) (h : y ≠ 0) : Ideal.div (x : EReal) (y : EReal) = ((x / y : ℝ) : EReal) := by
  rw [Ideal.div_coe h, ← EReal.coe_mul, mul_one_div]

end Cert.Proof.Spline

end
-- ==== Proof.Matrix.lean ====
/-
  The reference's matrix of second derivatives over the reals: the elimination's matrix after each step is a table of
  integers over one denominator, so the matrix it ends with is a table of rationals.
-/
module

public import proofs.«01_k».proof.Proof.Reals
public import proofs.«01_k».proof.Proof.Gen.ReferenceIdeal.Run

@[expose] public section

noncomputable section

namespace Cert.Proof.Spline

open Idealize.ShloMosaic Cert.ReferenceIdeal Cert.ReferenceIdeal.Value

variable (V : Valuation Cert.ReferenceIdeal.τ Cert.ReferenceIdeal.sig (Elt Ideal))

/-! ## Words -/

/-- A select on the equality of two small numbers' words is the `if` on the numbers. -/
theorem select_eq_ofNat {α : Type} (a b : ℕ) (ha : a < 4294967296) (hb : b < 4294967296) (x y : α) :
    Scalar.select (IntOp.cmpi .eq (BitVec.ofNat 32 a) (BitVec.ofNat 32 b)) x y = if a = b then x else y := by
  have h : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases hab : a = b
  · subst hab; simp [Scalar.select, IntOp.cmpi]
  · rw [if_neg hab]
    have : ¬ BitVec.ofNat 32 a = BitVec.ofNat 32 b := fun e => hab (h.1 e)
    have hb' : (BitVec.ofNat 32 a == BitVec.ofNat 32 b) = false := beq_eq_false_iff_ne.2 this
    simp [Scalar.select, IntOp.cmpi, hb']

/-- A small number's word, added to another's, is the sum's word. -/
theorem addi_ofNat (a b : ℕ) : IntOp.addi (BitVec.ofNat 32 a) (BitVec.ofNat 32 b) = BitVec.ofNat 32 (a + b) :=
  (BitVec.ofNat_add a b).symm

/-- A small number's word converts to the number. -/
theorem sitofp_ofNat (n : ℕ) (h : n < 2147483648) :
    (FloatOps.sitofp .f32 (BitVec.ofNat 32 n) : Ideal .f32) = ((n : ℝ) : EReal) := by
  show (((BitVec.ofNat 32 n).toInt : ℝ) : EReal) = _
  rw [BitVec.toInt_ofNat', Int.bmod_eq_of_le (by omega) (by omega)]
  norm_num

/-! ## The knots -/

/-- The knots are the multiples of a ninth. -/
theorem knots_at (j : Fin 10) : (res_main_v0 (F := Ideal) V : S10.Idx → EReal) (ix1 j) = (((j.val : ℝ) / 9 : ℝ) : EReal) := by
  unfold res_main_v0 res_main_call0_v6 res_main_call0_v1 res_main_call0_v0
  clean_types
  pointwise
  have e0 : (id (constant (F := Ideal) S_ FTy.f32 0#32) ix0 : EReal) = ((0 : ℝ) : EReal) := lit_zero
  have e1 : (id (constant (F := Ideal) S_ FTy.f32 1065353216#32) ix0 : EReal) = ((1 : ℝ) : EReal) := lit_one
  rw [e0, e1, lit_nine]
  split
  · rw [sitofp_ofNat _ (by omega), div_real _ _ (by norm_num), ← EReal.coe_one]
    norm_cast
    push_cast
    ring_nf
  · have : j.val = 9 := by omega
    rw [this]
    norm_num

/-- The distance of two neighbouring knots. -/
theorem gap_at (i : Fin 9) : (res_main_v3 (F := Ideal) V : S9.Idx → EReal) (ix1 i) = (((1 : ℝ) / 9 : ℝ) : EReal) := by
  unfold res_main_v3
  clean_types
  pointwise
  rw [knots_at, knots_at, ← EReal.coe_sub]
  congr 1
  push_cast
  ring

/-- The width of the interval before each inner knot is a ninth. -/
theorem lower_at (i : Fin 8) : (res_main_v5 (F := Ideal) V : S8x1.Idx → EReal) (ix2 i 0) = (((1 : ℝ) / 9 : ℝ) : EReal) := by
  unfold res_main_v5
  clean_types
  pointwise
  exact gap_at V _

/-- The width of the interval after each inner knot is a ninth. -/
theorem upper_at (i : Fin 8) : (res_main_v7 (F := Ideal) V : S8x1.Idx → EReal) (ix2 i 0) = (((1 : ℝ) / 9 : ℝ) : EReal) := by
  unfold res_main_v7
  clean_types
  pointwise
  exact gap_at V _

/-! ## The elimination -/

/-- The matrix the elimination starts from, times 54. -/
def tab0 : Fin 8 → Fin 18 → ℤ :=
  ![![4, 1, 0, 0, 0, 0, 0, 0, 486, -972, 486, 0, 0, 0, 0, 0, 0, 0],
    ![1, 4, 1, 0, 0, 0, 0, 0, 0, 486, -972, 486, 0, 0, 0, 0, 0, 0],
    ![0, 1, 4, 1, 0, 0, 0, 0, 0, 0, 486, -972, 486, 0, 0, 0, 0, 0],
    ![0, 0, 1, 4, 1, 0, 0, 0, 0, 0, 0, 486, -972, 486, 0, 0, 0, 0],
    ![0, 0, 0, 1, 4, 1, 0, 0, 0, 0, 0, 0, 486, -972, 486, 0, 0, 0],
    ![0, 0, 0, 0, 1, 4, 1, 0, 0, 0, 0, 0, 0, 486, -972, 486, 0, 0],
    ![0, 0, 0, 0, 0, 1, 4, 1, 0, 0, 0, 0, 0, 0, 486, -972, 486, 0],
    ![0, 0, 0, 0, 0, 0, 1, 4, 0, 0, 0, 0, 0, 0, 0, 486, -972, 486]]

/-- The matrix after 1 steps of the elimination, times 216. -/
def tab1 : Fin 8 → Fin 18 → ℤ :=
  ![![216, 54, 0, 0, 0, 0, 0, 0, 26244, -52488, 26244, 0, 0, 0, 0, 0, 0, 0],
    ![0, 15, 4, 0, 0, 0, 0, 0, -486, 2916, -4374, 1944, 0, 0, 0, 0, 0, 0],
    ![0, 4, 16, 4, 0, 0, 0, 0, 0, 0, 1944, -3888, 1944, 0, 0, 0, 0, 0],
    ![0, 0, 4, 16, 4, 0, 0, 0, 0, 0, 0, 1944, -3888, 1944, 0, 0, 0, 0],
    ![0, 0, 0, 4, 16, 4, 0, 0, 0, 0, 0, 0, 1944, -3888, 1944, 0, 0, 0],
    ![0, 0, 0, 0, 4, 16, 4, 0, 0, 0, 0, 0, 0, 1944, -3888, 1944, 0, 0],
    ![0, 0, 0, 0, 0, 4, 16, 4, 0, 0, 0, 0, 0, 0, 1944, -3888, 1944, 0],
    ![0, 0, 0, 0, 0, 0, 4, 16, 0, 0, 0, 0, 0, 0, 0, 1944, -3888, 1944]]

/-- The matrix after 2 steps of the elimination, times 810. -/
def tab2 : Fin 8 → Fin 18 → ℤ :=
  ![![810, 0, -54, 0, 0, 0, 0, 0, 104976, -236196, 157464, -26244, 0, 0, 0, 0, 0, 0],
    ![0, 810, 216, 0, 0, 0, 0, 0, -26244, 157464, -236196, 104976, 0, 0, 0, 0, 0, 0],
    ![0, 0, 56, 15, 0, 0, 0, 0, 486, -2916, 11664, -16524, 7290, 0, 0, 0, 0, 0],
    ![0, 0, 15, 60, 15, 0, 0, 0, 0, 0, 0, 7290, -14580, 7290, 0, 0, 0, 0],
    ![0, 0, 0, 15, 60, 15, 0, 0, 0, 0, 0, 0, 7290, -14580, 7290, 0, 0, 0],
    ![0, 0, 0, 0, 15, 60, 15, 0, 0, 0, 0, 0, 0, 7290, -14580, 7290, 0, 0],
    ![0, 0, 0, 0, 0, 15, 60, 15, 0, 0, 0, 0, 0, 0, 7290, -14580, 7290, 0],
    ![0, 0, 0, 0, 0, 0, 15, 60, 0, 0, 0, 0, 0, 0, 0, 7290, -14580, 7290]]

/-- The matrix after 3 steps of the elimination, times 3024. -/
def tab3 : Fin 8 → Fin 18 → ℤ :=
  ![![3024, 0, 0, 54, 0, 0, 0, 0, 393660, -892296, 629856, -157464, 26244, 0, 0, 0, 0, 0],
    ![0, 3024, 0, -216, 0, 0, 0, 0, -104976, 629856, -1049760, 629856, -104976, 0, 0, 0, 0, 0],
    ![0, 0, 3024, 810, 0, 0, 0, 0, 26244, -157464, 629856, -892296, 393660, 0, 0, 0, 0, 0],
    ![0, 0, 0, 209, 56, 0, 0, 0, -486, 2916, -11664, 43740, -61722, 27216, 0, 0, 0, 0],
    ![0, 0, 0, 56, 224, 56, 0, 0, 0, 0, 0, 0, 27216, -54432, 27216, 0, 0, 0],
    ![0, 0, 0, 0, 56, 224, 56, 0, 0, 0, 0, 0, 0, 27216, -54432, 27216, 0, 0],
    ![0, 0, 0, 0, 0, 56, 224, 56, 0, 0, 0, 0, 0, 0, 27216, -54432, 27216, 0],
    ![0, 0, 0, 0, 0, 0, 56, 224, 0, 0, 0, 0, 0, 0, 0, 27216, -54432, 27216]]

/-- The matrix after 4 steps of the elimination, times 11286. -/
def tab4 : Fin 8 → Fin 18 → ℤ :=
  ![![11286, 0, 0, 0, -54, 0, 0, 0, 1469664, -3332988, 2361960, -629856, 157464, -26244, 0, 0, 0, 0],
    ![0, 11286, 0, 0, 216, 0, 0, 0, -393660, 2361960, -3962844, 2519424, -629856, 104976, 0, 0, 0, 0],
    ![0, 0, 11286, 0, -810, 0, 0, 0, 104976, -629856, 2519424, -3962844, 2361960, -393660, 0, 0, 0, 0],
    ![0, 0, 0, 11286, 3024, 0, 0, 0, -26244, 157464, -629856, 2361960, -3332988, 1469664, 0, 0, 0, 0],
    ![0, 0, 0, 0, 780, 209, 0, 0, 486, -2916, 11664, -43740, 163296, -230364, 101574, 0, 0, 0],
    ![0, 0, 0, 0, 209, 836, 209, 0, 0, 0, 0, 0, 0, 101574, -203148, 101574, 0, 0],
    ![0, 0, 0, 0, 0, 209, 836, 209, 0, 0, 0, 0, 0, 0, 101574, -203148, 101574, 0],
    ![0, 0, 0, 0, 0, 0, 209, 836, 0, 0, 0, 0, 0, 0, 0, 101574, -203148, 101574]]

/-- The matrix after 5 steps of the elimination, times 42120. -/
def tab5 : Fin 8 → Fin 18 → ℤ :=
  ![![42120, 0, 0, 0, 0, 54, 0, 0, 5484996, -12439656, 8817984, -2361960, 629856, -157464, 26244, 0, 0, 0],
    ![0, 42120, 0, 0, 0, -216, 0, 0, -1469664, 8817984, -14801616, 9447840, -2519424, 629856, -104976, 0, 0, 0],
    ![0, 0, 42120, 0, 0, 810, 0, 0, 393660, -2361960, 9447840, -14959080, 9447840, -2361960, 393660, 0, 0, 0],
    ![0, 0, 0, 42120, 0, -3024, 0, 0, -104976, 629856, -2519424, 9447840, -14801616, 8817984, -1469664, 0, 0, 0],
    ![0, 0, 0, 0, 42120, 11286, 0, 0, 26244, -157464, 629856, -2361960, 8817984, -12439656, 5484996, 0, 0, 0],
    ![0, 0, 0, 0, 0, 2911, 780, 0, -486, 2916, -11664, 43740, -163296, 609444, -859734, 379080, 0, 0],
    ![0, 0, 0, 0, 0, 780, 3120, 780, 0, 0, 0, 0, 0, 0, 379080, -758160, 379080, 0],
    ![0, 0, 0, 0, 0, 0, 780, 3120, 0, 0, 0, 0, 0, 0, 0, 379080, -758160, 379080]]

/-- The matrix after 6 steps of the elimination, times 157194. -/
def tab6 : Fin 8 → Fin 18 → ℤ :=
  ![![157194, 0, 0, 0, 0, 0, -54, 0, 20470320, -46425636, 32909976, -8817984, 2361960, -629856, 157464, -26244, 0, 0],
    ![0, 157194, 0, 0, 0, 0, 216, 0, -5484996, 32909976, -55243620, 35271936, -9447840, 2519424, -629856, 104976, 0, 0],
    ![0, 0, 157194, 0, 0, 0, -810, 0, 1469664, -8817984, 35271936, -55873476, 35429400, -9447840, 2361960, -393660, 0, 0],
    ![0, 0, 0, 157194, 0, 0, 3024, 0, -393660, 2361960, -9447840, 35429400, -55873476, 35271936, -8817984, 1469664, 0, 0],
    ![0, 0, 0, 0, 157194, 0, -11286, 0, 104976, -629856, 2519424, -9447840, 35271936, -55243620, 32909976, -5484996, 0, 0],
    ![0, 0, 0, 0, 0, 157194, 42120, 0, -26244, 157464, -629856, 2361960, -8817984, 32909976, -46425636, 20470320, 0, 0],
    ![0, 0, 0, 0, 0, 0, 10864, 2911, 486, -2916, 11664, -43740, 163296, -609444, 2274480, -3208572, 1414746, 0],
    ![0, 0, 0, 0, 0, 0, 2911, 11644, 0, 0, 0, 0, 0, 0, 0, 1414746, -2829492, 1414746]]

/-- The matrix after 7 steps of the elimination, times 65184. -/
def tab7 : Fin 8 → Fin 18 → ℤ :=
  ![![65184, 0, 0, 0, 0, 0, 0, 6, 8488476, -19251432, 13646880, -3656664, 979776, -262440, 69984, -17496, 2916, 0],
    ![0, 65184, 0, 0, 0, 0, 0, -24, -2274480, 13646880, -22908096, 14626656, -3919104, 1049760, -279936, 69984, -11664, 0],
    ![0, 0, 65184, 0, 0, 0, 0, 90, 609444, -3656664, 14626656, -23170536, 14696640, -3936600, 1049760, -262440, 43740, 0],
    ![0, 0, 0, 65184, 0, 0, 0, -336, -163296, 979776, -3919104, 14696640, -23188032, 14696640, -3919104, 979776, -163296, 0],
    ![0, 0, 0, 0, 65184, 0, 0, 1254, 43740, -262440, 1049760, -3936600, 14696640, -23170536, 14626656, -3656664, 609444, 0],
    ![0, 0, 0, 0, 0, 65184, 0, -4680, -11664, 69984, -279936, 1049760, -3919104, 14626656, -22908096, 13646880, -2274480, 0],
    ![0, 0, 0, 0, 0, 0, 65184, 17466, 2916, -17496, 69984, -262440, 979776, -3656664, 13646880, -19251432, 8488476, 0],
    ![0, 0, 0, 0, 0, 0, 0, 4505, -54, 324, -1296, 4860, -18144, 67716, -252720, 943164, -1330506, 586656]]

/-- The matrix after 8 steps of the elimination, times 4505. -/
def tab8 : Fin 8 → Fin 18 → ℤ :=
  ![![4505, 0, 0, 0, 0, 0, 0, 0, 586656, -1330506, 943164, -252720, 67716, -18144, 4860, -1296, 324, -54],
    ![0, 4505, 0, 0, 0, 0, 0, 0, -157194, 943164, -1583226, 1010880, -270864, 72576, -19440, 5184, -1296, 216],
    ![0, 0, 4505, 0, 0, 0, 0, 0, 42120, -252720, 1010880, -1601370, 1015740, -272160, 72900, -19440, 4860, -810],
    ![0, 0, 0, 4505, 0, 0, 0, 0, -11286, 67716, -270864, 1015740, -1602666, 1016064, -272160, 72576, -18144, 3024],
    ![0, 0, 0, 0, 4505, 0, 0, 0, 3024, -18144, 72576, -272160, 1016064, -1602666, 1015740, -270864, 67716, -11286],
    ![0, 0, 0, 0, 0, 4505, 0, 0, -810, 4860, -19440, 72900, -272160, 1015740, -1601370, 1010880, -252720, 42120],
    ![0, 0, 0, 0, 0, 0, 4505, 0, 216, -1296, 5184, -19440, 72576, -270864, 1010880, -1583226, 943164, -157194],
    ![0, 0, 0, 0, 0, 0, 0, 4505, -54, 324, -1296, 4860, -18144, 67716, -252720, 943164, -1330506, 586656]]

/-- The matrix the elimination starts from. -/
theorem start_at (i : Fin 8) (j : Fin 18) :
    (res_main_v52 (F := Ideal) V : S8x18.Idx → EReal) (ix2 i j) = (((tab0 i j : ℝ) / 54 : ℝ) : EReal) := by
  unfold res_main_v52 res_main_v31 res_main_v32 res_main_v8 res_main_v9
  clean_types
  pointwise
  have e0 : (id (constant (F := Ideal) S_ FTy.f32 0#32) ix0 : EReal) = ((0 : ℝ) : EReal) := lit_zero
  rw [e0, lit_three, lit_six, lit_neg_one, ← EReal.coe_one, lower_at, upper_at]
  simp only [addi_ofNat]
  rw [select_eq_ofNat _ _ (by omega) (by omega), select_eq_ofNat _ _ (by omega) (by omega), select_eq_ofNat _ _ (by omega) (by omega),
    select_eq_ofNat _ _ (by omega) (by omega), select_eq_ofNat _ _ (by omega) (by omega), select_eq_ofNat _ _ (by omega) (by omega)]
  rw [← EReal.coe_add, div_real _ _ (by norm_num), div_real _ _ (by norm_num), div_real _ _ (by norm_num), div_real _ _ (by norm_num),
    ← EReal.coe_sub]
  split
  · rename_i h
    have key : ∀ (i : Fin 8) (j : Fin 18), j.val < 8 → tab0 i j = (if j.val = i.val then 4 else 0)
        + (if j.val = i.val + 1 then 1 else 0) + (if i.val = j.val + 1 then 1 else 0) := by decide +kernel
    rw [key i j h]
    split_ifs <;> (simp only [← EReal.coe_add]; congr 1; norm_num)
  · rename_i h
    have key : ∀ (i : Fin 8) (j : Fin 18), ¬ j.val < 8 → tab0 i j = (if j.val - 8 = i.val then 486 else 0)
        + (if j.val - 8 = i.val + 1 then -972 else 0) + (if j.val - 8 = i.val + 2 then 486 else 0) := by decide +kernel
    rw [key i j h]
    split_ifs <;> (simp only [← EReal.coe_add]; congr 1; norm_num)

/-- One step of the elimination on a matrix of integers over one denominator. -/
theorem pivot (M M' : Fin 8 → Fin 18 → EReal) (n n' : Fin 8 → Fin 18 → ℤ) (d d' : ℤ) (p : Fin 8) (q : Fin 18)
    (hM : ∀ r c, M r c = (((n r c : ℝ) / (d : ℝ) : ℝ) : EReal))
    (hM' : ∀ r c, M' r c = Scalar.select (IntOp.cmpi .eq (BitVec.ofNat 32 r.val) (BitVec.ofNat 32 p.val))
      (Ideal.div (M p c) (M p q)) (M r c - M r q * Ideal.div (M p c) (M p q)))
    (hd : d ≠ 0) (hd' : d' ≠ 0) (hn : n p q ≠ 0)
    (h1 : ∀ c, n' p c * n p q = n p c * d')
    (h2 : ∀ r c, r ≠ p → n' r c * d * n p q = d' * (n r c * n p q - n r q * n p c)) (r : Fin 8) (c : Fin 18) :
    M' r c = (((n' r c : ℝ) / (d' : ℝ) : ℝ) : EReal) := by
  have hd₁ : (d : ℝ) ≠ 0 := by exact_mod_cast hd
  have hd₂ : (d' : ℝ) ≠ 0 := by exact_mod_cast hd'
  have hn₁ : (n p q : ℝ) ≠ 0 := by exact_mod_cast hn
  rw [hM', select_eq_ofNat _ _ (by omega) (by omega)]
  simp only [hM]
  rw [div_real _ _ (div_ne_zero hn₁ hd₁)]
  split
  · rename_i h
    obtain rfl : r = p := Fin.ext h
    congr 1
    have := h1 c
    have e : (n' r c : ℝ) * n r q = n r c * d' := by exact_mod_cast this
    field_simp
    linarith
  · rename_i h
    have := h2 r c (fun e => h (congrArg Fin.val e))
    have e : (n' r c : ℝ) * d * n p q = d' * (n r c * n p q - n r q * n p c) := by exact_mod_cast this
    rw [← EReal.coe_mul, ← EReal.coe_sub]
    congr 1
    field_simp
    linarith

/-- The matrix after 1 step. -/
theorem step1_at (i : Fin 8) (j : Fin 18) :
    (res_main_v65 (F := Ideal) V : S8x18.Idx → EReal) (ix2 i j) = (((tab1 i j : ℝ) / ((216 : ℤ) : ℝ) : ℝ) : EReal) := by
  refine pivot (fun r c => (res_main_v52 (F := Ideal) V : S8x18.Idx → EReal) (ix2 r c))
    (fun r c => (res_main_v65 (F := Ideal) V : S8x18.Idx → EReal) (ix2 r c)) tab0 tab1 54 216 0 0
    (fun r c => start_at V r c) (fun r c => ?_) (by decide) (by decide) (by decide) (by decide +kernel) (by decide +kernel) i j
  show (res_main_v65 (F := Ideal) V : S8x18.Idx → EReal) (ix2 r c) = _
  unfold res_main_v65 res_main_v57 res_main_v53
  clean_types
  pointwise

/-- The matrix after 2 steps. -/
theorem step2_at (i : Fin 8) (j : Fin 18) :
    (res_main_v77 (F := Ideal) V : S8x18.Idx → EReal) (ix2 i j) = (((tab2 i j : ℝ) / ((810 : ℤ) : ℝ) : ℝ) : EReal) := by
  refine pivot (fun r c => (res_main_v65 (F := Ideal) V : S8x18.Idx → EReal) (ix2 r c))
    (fun r c => (res_main_v77 (F := Ideal) V : S8x18.Idx → EReal) (ix2 r c)) tab1 tab2 216 810 1 1
    (fun r c => step1_at V r c) (fun r c => ?_) (by decide) (by decide) (by decide) (by decide +kernel) (by decide +kernel) i j
  show (res_main_v77 (F := Ideal) V : S8x18.Idx → EReal) (ix2 r c) = _
  unfold res_main_v77 res_main_v69 res_main_v53
  clean_types
  pointwise

/-- The matrix after 3 steps. -/
theorem step3_at (i : Fin 8) (j : Fin 18) :
    (res_main_v89 (F := Ideal) V : S8x18.Idx → EReal) (ix2 i j) = (((tab3 i j : ℝ) / ((3024 : ℤ) : ℝ) : ℝ) : EReal) := by
  refine pivot (fun r c => (res_main_v77 (F := Ideal) V : S8x18.Idx → EReal) (ix2 r c))
    (fun r c => (res_main_v89 (F := Ideal) V : S8x18.Idx → EReal) (ix2 r c)) tab2 tab3 810 3024 2 2
    (fun r c => step2_at V r c) (fun r c => ?_) (by decide) (by decide) (by decide) (by decide +kernel) (by decide +kernel) i j
  show (res_main_v89 (F := Ideal) V : S8x18.Idx → EReal) (ix2 r c) = _
  unfold res_main_v89 res_main_v81 res_main_v53
  clean_types
  pointwise

/-- The matrix after 4 steps. -/
theorem step4_at (i : Fin 8) (j : Fin 18) :
    (res_main_v101 (F := Ideal) V : S8x18.Idx → EReal) (ix2 i j) = (((tab4 i j : ℝ) / ((11286 : ℤ) : ℝ) : ℝ) : EReal) := by
  refine pivot (fun r c => (res_main_v89 (F := Ideal) V : S8x18.Idx → EReal) (ix2 r c))
    (fun r c => (res_main_v101 (F := Ideal) V : S8x18.Idx → EReal) (ix2 r c)) tab3 tab4 3024 11286 3 3
    (fun r c => step3_at V r c) (fun r c => ?_) (by decide) (by decide) (by decide) (by decide +kernel) (by decide +kernel) i j
  show (res_main_v101 (F := Ideal) V : S8x18.Idx → EReal) (ix2 r c) = _
  unfold res_main_v101 res_main_v93 res_main_v53
  clean_types
  pointwise

/-- The matrix after 5 steps. -/
theorem step5_at (i : Fin 8) (j : Fin 18) :
    (res_main_v113 (F := Ideal) V : S8x18.Idx → EReal) (ix2 i j) = (((tab5 i j : ℝ) / ((42120 : ℤ) : ℝ) : ℝ) : EReal) := by
  refine pivot (fun r c => (res_main_v101 (F := Ideal) V : S8x18.Idx → EReal) (ix2 r c))
    (fun r c => (res_main_v113 (F := Ideal) V : S8x18.Idx → EReal) (ix2 r c)) tab4 tab5 11286 42120 4 4
    (fun r c => step4_at V r c) (fun r c => ?_) (by decide) (by decide) (by decide) (by decide +kernel) (by decide +kernel) i j
  show (res_main_v113 (F := Ideal) V : S8x18.Idx → EReal) (ix2 r c) = _
  unfold res_main_v113 res_main_v105 res_main_v53
  clean_types
  pointwise

/-- The matrix after 6 steps. -/
theorem step6_at (i : Fin 8) (j : Fin 18) :
    (res_main_v125 (F := Ideal) V : S8x18.Idx → EReal) (ix2 i j) = (((tab6 i j : ℝ) / ((157194 : ℤ) : ℝ) : ℝ) : EReal) := by
  refine pivot (fun r c => (res_main_v113 (F := Ideal) V : S8x18.Idx → EReal) (ix2 r c))
    (fun r c => (res_main_v125 (F := Ideal) V : S8x18.Idx → EReal) (ix2 r c)) tab5 tab6 42120 157194 5 5
    (fun r c => step5_at V r c) (fun r c => ?_) (by decide) (by decide) (by decide) (by decide +kernel) (by decide +kernel) i j
  show (res_main_v125 (F := Ideal) V : S8x18.Idx → EReal) (ix2 r c) = _
  unfold res_main_v125 res_main_v117 res_main_v53
  clean_types
  pointwise

/-- The matrix after 7 steps. -/
theorem step7_at (i : Fin 8) (j : Fin 18) :
    (res_main_v137 (F := Ideal) V : S8x18.Idx → EReal) (ix2 i j) = (((tab7 i j : ℝ) / ((65184 : ℤ) : ℝ) : ℝ) : EReal) := by
  refine pivot (fun r c => (res_main_v125 (F := Ideal) V : S8x18.Idx → EReal) (ix2 r c))
    (fun r c => (res_main_v137 (F := Ideal) V : S8x18.Idx → EReal) (ix2 r c)) tab6 tab7 157194 65184 6 6
    (fun r c => step6_at V r c) (fun r c => ?_) (by decide) (by decide) (by decide) (by decide +kernel) (by decide +kernel) i j
  show (res_main_v137 (F := Ideal) V : S8x18.Idx → EReal) (ix2 r c) = _
  unfold res_main_v137 res_main_v129 res_main_v53
  clean_types
  pointwise

/-- The second derivative at knot `r` of the spline that is one at knot `k` and zero at the others. -/
def curv (r k : Fin 10) : ℝ :=
  if h : 1 ≤ r.val ∧ r.val ≤ 8 then (tab8 ⟨r.val - 1, by omega⟩ ⟨k.val + 8, by omega⟩ : ℝ) / 4505 else 0

/-- The matrix of second derivatives the reference ends with is the table `curv`, at every row and column. -/
theorem curv_at (r k : Fin 10) : (res_main_v152 (F := Ideal) V : S10x10.Idx → EReal) (ix2 r k) = ((curv r k : ℝ) : EReal) := by
  unfold res_main_v152 res_main_v150 res_main_v141 res_main_v53
  clean_types
  pointwise
  unfold curv
  split
  · rw [dif_neg (by omega)]; rfl
  · split
    · rw [dif_pos (by omega)]
      have e := pivot (fun r c => (res_main_v137 (F := Ideal) V : S8x18.Idx → EReal) (ix2 r c)) _ tab7 tab8 65184 4505 7 7
        (fun r c => step7_at V r c) (fun r c => rfl) (by decide) (by decide) (by decide) (by decide +kernel) (by decide +kernel)
        ⟨r.val - 1, by omega⟩ ⟨k.val + 8, by omega⟩
      simp only [Nat.add_comm 8 k.val]
      exact e.trans (by norm_num)
    · rw [dif_neg (by omega)]; rfl

end Cert.Proof.Spline

end
-- ==== Proof.RefValue.lean ====
module

public import proofs.«01_k».proof.Proof.Matrix
public import Idealize.ShloMosaic.Lib.Routing.OpsSearch

/-! # The reference's value at one point

For a point `t` between 0 and 1 the reference counts the knots below `t`, reads the two knots around it and the two rows of
second derivatives belonging to them, and forms ten basis numbers. This module computes each of these over the reals:
`basis t k` is the basis number in column `k`, and `reference_run` states what a run of the reference leaves behind. -/

@[expose] public section

noncomputable section

namespace Cert.Proof.Spline

open Idealize.ShloMosaic Idealize.SL.Sem Cert.ReferenceIdeal Cert.ReferenceIdeal.Gen Cert.ReferenceIdeal.Value

/-! ## The interval of a point -/

/-- The number of the knot that ends the interval of the point `t`: the count of knots below `t`, at least 1. -/
def cell (t : ℝ) : ℕ := max 1 ⌈9 * t⌉₊

/-- The first interval ends at knot 1. -/
theorem one_le_cell (t : ℝ) : 1 ≤ cell t := le_max_left _ _

/-- No interval ends past knot 9. -/
theorem cell_le {t : ℝ} (h : t ≤ 1) : cell t ≤ 9 := by
  refine max_le (by norm_num) (Nat.ceil_le.2 ?_)
  push_cast
  linarith

/-- The sum of ten one-bit words, the first `n` of them set, clipped to 1 … 9. -/
theorem count_word (n : ℕ) (h : n ≤ 9) :
    IntOp.minsi (9#32) (IntOp.maxsi (1#32) (Finset.fold IntOp.addi (0#32)
      (fun x : Fin 10 => BitVec.setWidth 32 (BitVec.ofBool (decide (x.val < n)))) Finset.univ)) = BitVec.ofNat 32 (max 1 n) := by
  interval_cases n <;> decide

/-- The comparison of knot `q` with a point, as a comparison of numbers. -/
theorem below_word {q : ℕ} {t : ℝ} {a b : EReal} (ha : a = (((q : ℝ) / 9 : ℝ) : EReal)) (hb : b = ((t : ℝ) : EReal)) :
    decide (a < b) = decide (q < ⌈9 * t⌉₊) := by
  rw [ha, hb]
  refine decide_eq_decide.2 ?_
  rw [EReal.coe_lt_coe_iff, Nat.lt_ceil]
  constructor <;> intro h <;> linarith

/-- A comparison of reals that fails. -/
theorem not_below {s t : ℝ} {a b : EReal} (ha : a = ((s : ℝ) : EReal)) (hb : b = ((t : ℝ) : EReal)) (h : t ≤ s) : ¬ a < b := by
  rw [ha, hb, EReal.coe_lt_coe_iff]
  exact not_lt.2 h

/-- The difference of two vectors at a point where both hold reals. -/
theorem sub_at (A B : FVec Ideal S1000000 .f32) {i : Fin 1000000} {a b : ℝ} (ha : A (ix1 i) = ((a : ℝ) : EReal)) (hb : B (ix1 i) = ((b : ℝ) : EReal)) :
    (subf A B : S1000000.Idx → EReal) (ix1 i) = ((a - b : ℝ) : EReal) := by
  pointwise
  rw [ha, hb, EReal.coe_sub]

/-- A word below 10 is never taken for a negative index. -/
theorem wrapped_word (n : ℕ) (h : n < 10) (y : BitVec 32) :
    Scalar.select (IntOp.cmpi .slt (BitVec.ofNat 32 n) 0#32) y (BitVec.ofNat 32 n) = BitVec.ofNat 32 n := by
  interval_cases n <;> rfl

/-- One less than a word between 1 and 10. -/
theorem pred_word (n : ℕ) (h : 1 ≤ n) (h' : n ≤ 10) : IntOp.subi (BitVec.ofNat 32 n) 1#32 = BitVec.ofNat 32 (n - 1) := by
  interval_cases n <;> rfl

/-- One less than an index vector at a point where it holds the word of `n`. -/
theorem pred_at (j : IVec S1000000 32) {i : Fin 1000000} {n : ℕ} (hj : j (ix1 i) = BitVec.ofNat 32 n) (h : 1 ≤ n) (h' : n ≤ 10) :
    (subi j (broadcastInDim S1000000 ![] bcast_S_S1000000 (constantI S_ 32 1#32)) : S1000000.Idx → BitVec 32) (ix1 i) = BitVec.ofNat 32 (n - 1) := by
  pointwise
  rw [hj]
  exact pred_word n h h'

/-! ## The reads by index -/

/-- Reading a table of ten numbers at an index that is the word of `n`. -/
theorem knot_read (T : FVec Ideal S10 .f32) (j : IVec S1000000 32) (i : Fin 1000000) (n : ℕ) (hn : n < 10) (hj : j (ix1 i) = BitVec.ofNat 32 n) :
    (Host.gather gather_S10_S1000000x1_S1000000_n_0_n_n_0_1_1 T (broadcastInDim S1000000x1 ![0] bcast_S1000000_S1000000x1_0 (select (cmpi .slt j (broadcastInDim S1000000 ![] bcast_S_S1000000 (constantI S_ 32 0#32))) (addi j (broadcastInDim S1000000 ![] bcast_S_S1000000 (constantI S_ 32 10#32))) j)) : S1000000.Idx → EReal) (ix1 i) = T (ix1 ⟨n, hn⟩) := by
  refine Routing.take_ap (N := 10) (n := 1000000) _ rfl rfl rfl rfl T _ i hn (by omega) ?_
  have e : (ValueIdx.ix2 i (0 : Fin 1) : S1000000x1.Idx) = ix2 i 0 := rfl
  refine (congrArg _ e).trans ?_
  pointwise
  rw [hj]
  exact wrapped_word n hn _

/-- Reading a row of a ten by ten table at an index that is the word of `n`. -/
theorem row_read (T : FVec Ideal S10x10 .f32) (j : IVec S1000000 32) (i : Fin 1000000) (k : Fin 10) (n : ℕ) (hn : n < 10) (hj : j (ix1 i) = BitVec.ofNat 32 n) :
    (Host.gather gather_S10x10_S1000000x1_S1000000x10_1_0_n_n_0_1_110 T (broadcastInDim S1000000x1 ![0] bcast_S1000000_S1000000x1_0 (select (cmpi .slt j (broadcastInDim S1000000 ![] bcast_S_S1000000 (constantI S_ 32 0#32))) (addi j (broadcastInDim S1000000 ![] bcast_S_S1000000 (constantI S_ 32 10#32))) j)) : S1000000x10.Idx → EReal) (ix2 i k) = T (ix2 ⟨n, hn⟩ k) := by
  refine Routing.gather_row (nb := 10) (B := 10) (n := 1000000) _ rfl rfl rfl rfl rfl T _ i k ⟨n, hn⟩ ?_ (by norm_num)
  have e : (ValueIdx.ix2 i (0 : Fin 1) : S1000000x1.Idx) = ix2 i 0 := rfl
  refine (congrArg _ e).trans ?_
  pointwise
  rw [hj]
  exact wrapped_word n hn _

/-! ## The basis between the outer knots -/

/-- The reference's matrix of basis numbers for points between the outer knots, as a function of the vectors it is made of. -/
def between (T : FVec Ideal S10x10 .f32) (col : IVec S1x10 32) (lo hi gap below above x : FVec Ideal S1000000 .f32) (jl jm j : IVec S1000000 32) : FVec Ideal S1000000x10 .f32 :=
  addf (addf (addf (mulf (broadcastInDim S1000000x10 ![0, 1] bcast_S1000000x1_S1000000x10_0_1 (broadcastInDim S1000000x1 ![0] bcast_S1000000_S1000000x1_0 (Host.divf (subf (Host.divf (mulf (mulf below below) below) gap) (mulf gap (subf hi x))) (broadcastInDim S1000000 ![] bcast_S_S1000000 (constant S_ .f32 0x40C00000#32))))) (Host.gather gather_S10x10_S1000000x1_S1000000x10_1_0_n_n_0_1_110 T (broadcastInDim S1000000x1 ![0] bcast_S1000000_S1000000x1_0 (select (cmpi .slt jl (broadcastInDim S1000000 ![] bcast_S_S1000000 (constantI S_ 32 0#32))) (addi jl (broadcastInDim S1000000 ![] bcast_S_S1000000 (constantI S_ 32 10#32))) jl)))) (mulf (broadcastInDim S1000000x10 ![0, 1] bcast_S1000000x1_S1000000x10_0_1 (broadcastInDim S1000000x1 ![0] bcast_S1000000_S1000000x1_0 (Host.divf (subf (Host.divf (mulf (mulf above above) above) gap) (mulf gap (subf x lo))) (broadcastInDim S1000000 ![] bcast_S_S1000000 (constant S_ .f32 0x40C00000#32))))) (Host.gather gather_S10x10_S1000000x1_S1000000x10_1_0_n_n_0_1_110 T (broadcastInDim S1000000x1 ![0] bcast_S1000000_S1000000x1_0 (select (cmpi .slt j (broadcastInDim S1000000 ![] bcast_S_S1000000 (constantI S_ 32 0#32))) (addi j (broadcastInDim S1000000 ![] bcast_S_S1000000 (constantI S_ 32 10#32))) j))))) (select (cmpi .eq (broadcastInDim S1000000x10 ![0, 1] bcast_S1x10_S1000000x10_0_1 col) (broadcastInDim S1000000x10 ![0, 1] bcast_S1000000x1_S1000000x10_0_1 (broadcastInDim S1000000x1 ![0] bcast_S1000000_S1000000x1_0 jm))) (broadcastInDim S1000000x10 ![0, 1] bcast_S1000000x1_S1000000x10_0_1 (broadcastInDim S1000000x1 ![0] bcast_S1000000_S1000000x1_0 (Host.divf (subf hi x) gap))) (broadcastInDim S1000000x10 ![] bcast_S_S1000000x10 (id (constant (F := Ideal) S_ .f32 0x00000000#32))))) (select (cmpi .eq (broadcastInDim S1000000x10 ![0, 1] bcast_S1x10_S1000000x10_0_1 col) (broadcastInDim S1000000x10 ![0, 1] bcast_S1000000x1_S1000000x10_0_1 (broadcastInDim S1000000x1 ![0] bcast_S1000000_S1000000x1_0 j))) (broadcastInDim S1000000x10 ![0, 1] bcast_S1000000x1_S1000000x10_0_1 (broadcastInDim S1000000x1 ![0] bcast_S1000000_S1000000x1_0 (Host.divf (subf x lo) gap))) (broadcastInDim S1000000x10 ![] bcast_S_S1000000x10 (id (constant S_ .f32 0x00000000#32))))

/-- The basis number of column `k` at the point `t`: two cubics weighing the rows of second derivatives of the two knots around
    `t`, and the two linear weights in the columns of those knots. -/
def basis (t : ℝ) (k : Fin 10) : ℝ :=
  let J : ℕ := cell t
  let u : ℝ := (J : ℝ) / 9 - t
  let s : ℝ := t - ((J - 1 : ℕ) : ℝ) / 9
  ((u * u * u) / (1 / 9) - 1 / 9 * u) / 6 * curv (Fin.ofNat 10 (J - 1)) k + ((s * s * s) / (1 / 9) - 1 / 9 * s) / 6 * curv (Fin.ofNat 10 J) k
    + (if k.val = J - 1 then u / (1 / 9) else 0) + (if k.val = J then s / (1 / 9) else 0)

/-- One entry of `between`, where every vector holds the real number or the word it stands for. -/
theorem between_at (T : FVec Ideal S10x10 .f32) (col : IVec S1x10 32) (lo hi gap below above x : FVec Ideal S1000000 .f32) (jl jm j : IVec S1000000 32)
    (i : Fin 1000000) (k : Fin 10) (t : ℝ) (h1 : t ≤ 1)
    (hT : ∀ r c : Fin 10, T (ix2 r c) = ((curv r c : ℝ) : EReal)) (hcol : col (ix2 0 k) = BitVec.ofNat 32 k.val)
    (hlo : lo (ix1 i) = ((((cell t - 1 : ℕ) : ℝ) / 9 : ℝ) : EReal)) (hhi : hi (ix1 i) = (((cell t : ℝ) / 9 : ℝ) : EReal))
    (hgap : gap (ix1 i) = ((1 / 9 : ℝ) : EReal)) (hbelow : below (ix1 i) = (((cell t : ℝ) / 9 - t : ℝ) : EReal))
    (habove : above (ix1 i) = ((t - ((cell t - 1 : ℕ) : ℝ) / 9 : ℝ) : EReal)) (hx : x (ix1 i) = ((t : ℝ) : EReal))
    (hjl : jl (ix1 i) = BitVec.ofNat 32 (cell t - 1)) (hjm : jm (ix1 i) = BitVec.ofNat 32 (cell t - 1)) (hj : j (ix1 i) = BitVec.ofNat 32 (cell t)) :
    (between T col lo hi gap below above x jl jm j : S1000000x10.Idx → EReal) (ix2 i k) = ((basis t k : ℝ) : EReal) := by
  have c9 := cell_le h1
  have rl := row_read T jl i k (cell t - 1) (by omega) hjl
  have rh := row_read T j i k (cell t) (by omega) hj
  unfold between
  generalize (Host.gather gather_S10x10_S1000000x1_S1000000x10_1_0_n_n_0_1_110 T (broadcastInDim S1000000x1 ![0] bcast_S1000000_S1000000x1_0 (select (cmpi .slt jl (broadcastInDim S1000000 ![] bcast_S_S1000000 (constantI S_ 32 0#32))) (addi jl (broadcastInDim S1000000 ![] bcast_S_S1000000 (constantI S_ 32 10#32))) jl))) = A at rl ⊢
  generalize (Host.gather gather_S10x10_S1000000x1_S1000000x10_1_0_n_n_0_1_110 T (broadcastInDim S1000000x1 ![0] bcast_S1000000_S1000000x1_0 (select (cmpi .slt j (broadcastInDim S1000000 ![] bcast_S_S1000000 (constantI S_ 32 0#32))) (addi j (broadcastInDim S1000000 ![] bcast_S_S1000000 (constantI S_ 32 10#32))) j))) = B at rh ⊢
  pointwise
  have e0 : (id (constant (F := Ideal) S_ FTy.f32 0#32) ix0 : EReal) = ((0 : ℝ) : EReal) := lit_zero
  have fl : (⟨cell t - 1, by omega⟩ : Fin 10) = Fin.ofNat 10 (cell t - 1) := Fin.ext (Nat.mod_eq_of_lt (by omega)).symm
  have fh : (⟨cell t, by omega⟩ : Fin 10) = Fin.ofNat 10 (cell t) := Fin.ext (Nat.mod_eq_of_lt (by omega)).symm
  rw [rl, rh, hcol, hjm, hj, hlo, hhi, hgap, hbelow, habove, hx, hT, hT, e0, lit_six, fl, fh]
  rw [select_eq_ofNat _ _ (by omega) (by omega), select_eq_ofNat _ _ (by omega) (by omega)]
  simp only [← EReal.coe_sub, ← EReal.coe_mul]
  rw [div_real _ _ (by norm_num), div_real _ _ (by norm_num), div_real _ _ (by norm_num), div_real _ _ (by norm_num)]
  simp only [← EReal.coe_sub, ← EReal.coe_mul]
  rw [div_real _ _ (by norm_num), div_real _ _ (by norm_num)]
  have ite (p : Prop) [Decidable p] (a : ℝ) : (if p then (a : EReal) else ((0 : ℝ) : EReal)) = (((if p then a else 0) : ℝ) : EReal) := by
    split <;> rfl
  rw [ite, ite]
  simp only [← EReal.coe_add, ← EReal.coe_mul]
  rfl

/-- Where the point does not lie past the last knot the choice of the branch for such points falls on the other one. -/
theorem not_past {X : FVec Ideal S1000000 .f32} {K : FVec Ideal S_ .f32} (A B : FVec Ideal S1000000x10 .f32) {i : Fin 1000000} {k : Fin 10}
    (h : ¬ ((K ix0 : EReal) < (X (ix1 i) : EReal))) :
    (select (broadcastInDim S1000000x10 ![0, 1] bcast_S1000000x1_S1000000x10_0_1 (broadcastInDim S1000000x1 ![0] bcast_S1000000_S1000000x1_0 (cmpf .ogt X (broadcastInDim S1000000 ![] bcast_S_S1000000 K)))) A B : S1000000x10.Idx → EReal) (ix2 i k) = B (ix2 i k) := by
  pointwise
  rw [if_neg h]

variable (V : Valuation Cert.ReferenceIdeal.τ Cert.ReferenceIdeal.sig (Elt Ideal))

section Point

variable {V} {i : Fin 1000000} {t : ℝ} (h0 : 0 ≤ t) (h1 : t ≤ 1)
  (hx : (V (Proc.devRef .tc main_arg0) : S1000000.Idx → EReal) (ix1 i) = ((t : ℝ) : EReal))

include h1 hx in
/-- The interval's number, as the reference counts it. -/
theorem cell_at : (res_main_v170 (F := Ideal) V : S1000000.Idx → BitVec 32) (ix1 i) = BitVec.ofNat 32 (cell t) := by
  unfold res_main_v170
  clean_types
  pointwise
  have n9 : ⌈9 * t⌉₊ ≤ 9 := Nat.ceil_le.2 (by push_cast; linarith)
  refine Eq.trans ?_ (count_word _ n9)
  refine congrArg (fun f : Fin 10 → BitVec 32 => IntOp.minsi (9#32) (IntOp.maxsi (1#32) (Finset.fold IntOp.addi (0#32) f Finset.univ))) (funext fun q => ?_)
  exact congrArg (fun b => BitVec.setWidth 32 (BitVec.ofBool b)) (below_word (knots_at V q) hx)

include h1 hx in
/-- The number of the knot that starts the interval. -/
theorem pred_cell_at : (res_main_v172 (F := Ideal) V : S1000000.Idx → BitVec 32) (ix1 i) = BitVec.ofNat 32 (cell t - 1) := by
  have c9 := cell_le h1
  unfold res_main_v172
  exact pred_at _ (cell_at h1 hx) (one_le_cell t) (by omega)

include h1 hx in
/-- The knot that starts the interval. -/
theorem start_knot_at : (res_main_v179 (F := Ideal) V : S1000000.Idx → EReal) (ix1 i) = ((((cell t - 1 : ℕ) : ℝ) / 9 : ℝ) : EReal) := by
  have h := pred_cell_at h1 hx
  have c9 := cell_le h1
  unfold res_main_v179
  refine (knot_read _ _ i _ (by omega) h).trans ?_
  exact knots_at V _

include h1 hx in
/-- The knot that ends the interval. -/
theorem end_knot_at : (res_main_v186 (F := Ideal) V : S1000000.Idx → EReal) (ix1 i) = (((cell t : ℝ) / 9 : ℝ) : EReal) := by
  have h := cell_at h1 hx
  have c9 := cell_le h1
  unfold res_main_v186
  refine (knot_read _ _ i _ (by omega) h).trans ?_
  exact knots_at V _

include h1 hx in
/-- An entry of the reference's matrix of basis numbers at a point that does not lie past the last knot. -/
theorem basis_at (k : Fin 10) : (res_main_v349 (F := Ideal) V : S1000000x10.Idx → EReal) (ix2 i k) = ((basis t k : ℝ) : EReal) := by
  have hs := start_knot_at h1 hx
  have he := end_knot_at h1 hx
  have hj := cell_at h1 hx
  have hl := pred_cell_at h1 hx
  have gap : (cell t : ℝ) / 9 - ((cell t - 1 : ℕ) : ℝ) / 9 = 1 / 9 := by
    rw [Nat.cast_sub (one_le_cell t)]; push_cast; ring
  have g : (res_main_v187 (F := Ideal) V : S1000000.Idx → EReal) (ix1 i) = ((1 / 9 : ℝ) : EReal) := by
    unfold res_main_v187
    exact (sub_at _ _ he hs).trans (congrArg _ gap)
  unfold res_main_v349
  refine (not_past _ _ ?_).trans ?_
  · have hk := knots_at V 9
    exact not_below hk hx (by norm_num; exact h1)
  · refine between_at (res_main_v152 V) (res_main_v154 V) (res_main_v179 V) (res_main_v186 V) (res_main_v187 V) (res_main_v192 V) (res_main_v201 V) (V (Proc.devRef .tc main_arg0)) (res_main_v212 V) _ (res_main_v170 V) i k t h1 (curv_at V) rfl hs he g ?_ ?_ hx hl hl hj
    · unfold res_main_v192
      exact sub_at _ _ he hx
    · unfold res_main_v201
      exact sub_at _ _ hx hs

end Point

/-! ## The result -/

/-- A sum of reals, taken as an extended real. -/
theorem sum_coe {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The reference's last steps at one point: the basis numbers less the means, times the weights, plus the offset. -/
theorem outcome_at (A R : FVec Ideal S1000000x10 .f32) (X : FVec Ideal S1000000 .f32) (K : FVec Ideal S_ .f32) (mean W : FVec Ideal S1x10 .f32)
    (b : FVec Ideal S1 .f32) (i : Fin 1000000) (z : Fin 1) {s t : ℝ} {B mu w : Fin 10 → ℝ} (hK : K ix0 = ((s : ℝ) : EReal)) (hX : X (ix1 i) = ((t : ℝ) : EReal))
    (hst : s ≤ t) (hR : ∀ k, (R (ix2 i k) : EReal) = ((B k : ℝ) : EReal)) (hmean : ∀ k, (mean (ix2 0 k) : EReal) = ((mu k : ℝ) : EReal))
    (hW : ∀ k, (W (ix2 0 k) : EReal) = ((w k : ℝ) : EReal)) :
    (addf (Host.dotGeneral dot_S1000000x10_S10x1_S1000000x1_1_0_0_1_n_n none (subf (select (broadcastInDim S1000000x10 ![0, 1] bcast_S1000000x1_S1000000x10_0_1 (broadcastInDim S1000000x1 ![0] bcast_S1000000_S1000000x1_0 (cmpf .olt X (broadcastInDim S1000000 ![] bcast_S_S1000000 K)))) A R) (broadcastInDim S1000000x10 ![0, 1] bcast_S1x10_S1000000x10_0_1 mean)) (transpose S10x1 [1, 0] W transposes_S1x10_S10x1_1_0)) (broadcastInDim S1000000x1 ![0, 1] bcast_S1x1_S1000000x1_0_1 (broadcastInDim S1x1 ![1] bcast_S1_S1x1_1 b)) : S1000000x1.Idx → EReal) (ix2 i z)
      = ((∑ k, (B k - mu k) * w k : ℝ) : EReal) + b (ix1 0) := by
  pointwise
  have hl : ¬ ((X (ix1 i) : EReal) < (K ix0 : EReal)) := not_below hX hK hst
  simp only [if_neg hl, hR, hmean, hW]
  rw [sum_coe]
  simp only [EReal.coe_mul, EReal.coe_sub]

/-- Every run of the reference, over the reals, on points between 0 and 1 and on real weights and means: its result at a point is
    the sum of the basis numbers less the means times the weights, plus the offset; the arguments are left as they were. -/
theorem reference_run (m : (ℓ : Loc Cert.ReferenceIdeal.nD Cert.ReferenceIdeal.τ Cert.ReferenceIdeal.sig) → Buf (Elt Ideal) ℓ) (ρ : Dev Cert.ReferenceIdeal.nD → PrngReg)
    (t : Dev Cert.ReferenceIdeal.nD → Fin 1000000 → ℝ) (w mu : Dev Cert.ReferenceIdeal.nD → Fin 10 → ℝ) (h0 : ∀ c i, 0 ≤ t c i) (h1 : ∀ c i, t c i ≤ 1)
    (hx : ∀ c i, (m ((c.tc : Thread Cert.ReferenceIdeal.nD Cert.ReferenceIdeal.τ).loc main_arg0) : S1000000.Idx → EReal) (ix1 i) = ((t c i : ℝ) : EReal))
    (hW : ∀ c k, (m ((c.tc : Thread Cert.ReferenceIdeal.nD Cert.ReferenceIdeal.τ).loc main_arg1) : S1x10.Idx → EReal) (ix2 0 k) = ((w c k : ℝ) : EReal))
    (hm : ∀ c k, (m ((c.tc : Thread Cert.ReferenceIdeal.nD Cert.ReferenceIdeal.τ).loc main_arg3) : S1x10.Idx → EReal) (ix2 0 k) = ((mu c k : ℝ) : EReal)) :
    θ_run Cert.ReferenceIdeal.defs (onTc (τ := Cert.ReferenceIdeal.τ) (main (F := Ideal))) ⟨m, fun _ => 0, ρ⟩ fun r => ∀ c : Dev Cert.ReferenceIdeal.nD,
      r.2.mem ((c.tc : Thread Cert.ReferenceIdeal.nD Cert.ReferenceIdeal.τ).loc main_v357)
        = ((fun j => ((∑ k, (basis (t c (j 0)) k - mu c k) * w c k : ℝ) : EReal)
            + (m ((c.tc : Thread Cert.ReferenceIdeal.nD Cert.ReferenceIdeal.τ).loc main_arg2) : S1.Idx → EReal) (ix1 0)) : S1000000x1.Idx → EReal)
      ∧ r.2.mem ((c.tc : Thread Cert.ReferenceIdeal.nD Cert.ReferenceIdeal.τ).loc main_arg0) = m (c.tc.loc main_arg0)
      ∧ r.2.mem ((c.tc : Thread Cert.ReferenceIdeal.nD Cert.ReferenceIdeal.τ).loc main_arg1) = m (c.tc.loc main_arg1)
      ∧ r.2.mem ((c.tc : Thread Cert.ReferenceIdeal.nD Cert.ReferenceIdeal.τ).loc main_arg2) = m (c.tc.loc main_arg2)
      ∧ r.2.mem ((c.tc : Thread Cert.ReferenceIdeal.nD Cert.ReferenceIdeal.τ).loc main_arg3) = m (c.tc.loc main_arg3) := by
  refine (θ_run _ _ _).mono (fun r h c => ⟨(h c).1.trans ?_, (h c).2⟩) (run m ρ)
  refine funext fun j => ?_
  idx_vars j
  have hk := knots_at (StableHlo.launchContents m c) 0
  refine outcome_at _ _ _ _ _ _ _ j0 j1 hk (hx c j0) ?_ (fun k => basis_at (h1 c j0) (hx c j0) k) (hm c) (hW c)
  simpa using h0 c j0

end Cert.Proof.Spline

end
-- ==== Proof.KernelValue.lean ====
module

public import proofs.«01_k».proof.Proof.Matrix
public import proofs.«01_k».proof.Proof.Value
public import proofs.«01_k».proof.Proof.Frames

/-! # The kernel's value at one point, over the reals

The packed table the kernel is given holds the second derivatives `curv`. Each tile folds them with the weights, makes the
four rows of coefficients of the nine cubics, and at each point evaluates the cubic of the point's segment. This module
reads each of these steps as a real number. -/

@[expose] public section

noncomputable section

namespace Cert.Proof.Spline

open Idealize.ShloMosaic Idealize.SL.Sem Cert.KernelIdeal Cert.KernelIdeal.Gen

/-- The `n`-th of ten numbers, zero past the tenth. -/
def nth (w : Fin 10 → ℝ) (n : ℕ) : ℝ := if h : n < 10 then w ⟨n, h⟩ else 0

/-- `nth` at a number below ten. -/
theorem nth_of_lt (w : Fin 10 → ℝ) {n : ℕ} (h : n < 10) : nth w n = w ⟨n, h⟩ := dif_pos h

/-- The second derivative at knot `r` of the spline with the values `w` at the knots. -/
def bend (w : Fin 10 → ℝ) (r : Fin 10) : ℝ := ∑ j : Fin 10, w j * curv r j

/-- The weighted mean. -/
def centre (w mu : Fin 10 → ℝ) : ℝ := ∑ j : Fin 10, mu j * w j

/-! ## The packed table -/

/-- The table's numerators: nine times the entries of the eliminated matrix, zero in the rows of the outer knots. -/
theorem numerator (r j : Fin 10) : (lit0 ⟨16 * j.val + r.val, by omega⟩).toInt =
    if h : 1 ≤ r.val ∧ r.val ≤ 8 then 9 * tab8 ⟨r.val - 1, by omega⟩ ⟨j.val + 8, by omega⟩ else 0 := by
  revert r j
  decide +kernel

/-- The numerators of the table's last row that the kernel reads. -/
theorem numerator_last (l : Fin 9) : (lit0 ⟨160 + l.val, by omega⟩).toInt = 1 := by
  revert l
  decide +kernel

/-- An entry of the packed table among its first 160. -/
theorem packed_low (i : Fin 176) (h : i.val < 160) : (packed (F := Ideal) : S176.Idx → EReal) (ix1 i) = ((((lit0 i).toInt : ℝ) / 40545 : ℝ) : EReal) := by
  unfold packed
  pointwise
  rw [dif_pos h]
  have e : S176.rowMajor (ix1 i) = i := Fin.ext (Shape.rowMajor_val_one _)
  have s : (FloatOps.sitofp (F := Ideal) FTy.f32 (lit0 (S176.rowMajor (ix1 i))) : EReal) = (((lit0 i).toInt : ℝ) : EReal) := by
    rw [e]; rfl
  refine (congrArg₂ Ideal.div s lit_40545).trans ?_
  rw [div_real _ _ (by norm_num)]

/-- An entry of the packed table past its first 160. -/
theorem packed_high (i : Fin 176) (h : ¬ i.val < 160) : (packed (F := Ideal) : S176.Idx → EReal) (ix1 i) = ((((lit0 i).toInt : ℝ) / 486 : ℝ) : EReal) := by
  unfold packed
  pointwise
  rw [dif_neg h]
  have e : S176.rowMajor (ix1 ⟨160 + (i.val - 160), by omega⟩) = i := Fin.ext ((Shape.rowMajor_val_one _).trans (show 160 + (i.val - 160) = i.val by omega))
  have s : (FloatOps.sitofp (F := Ideal) FTy.f32 (lit0 (S176.rowMajor (ix1 ⟨160 + (i.val - 160), by omega⟩))) : EReal) = (((lit0 i).toInt : ℝ) : EReal) := by
    rw [e]; rfl
  refine (congrArg₂ Ideal.div s lit_486).trans ?_
  rw [div_real _ _ (by norm_num)]

/-- The packed table holds the second derivatives. -/
theorem packed_at (r j : Fin 10) : (packed (F := Ideal) : S176.Idx → EReal) (ix1 ⟨16 * j.val + r.val, by omega⟩) = ((curv r j : ℝ) : EReal) := by
  rw [packed_low _ (show 16 * j.val + r.val < 160 by omega), numerator]
  congr 1
  unfold curv
  split
  · push_cast; ring
  · simp

/-- The packed table's last row holds the constant the coefficients are scaled by. -/
theorem packed_last (l : Fin 9) : (packed (F := Ideal) : S176.Idx → EReal) (ix1 ⟨160 + l.val, by omega⟩) = ((1 / 486 : ℝ) : EReal) := by
  rw [packed_high _ (show ¬ 160 + l.val < 160 by omega), numerator_last]
  norm_num

/-! ## The steps of a tile -/

/-- Lane `l` of the sum of ten rows, each times its weight. -/
theorem fold_at (x a b c d e f g h i j : Vec Ideal S16 .f32) (l : Fin 16) (w v : Fin 10 → ℝ)
    (hx : ∀ n : Fin 10, x (ix1 ⟨n.val, by omega⟩) = ((w n : ℝ) : EReal))
    (ha : a (ix1 l) = ((v 0 : ℝ) : EReal)) (hb : b (ix1 l) = ((v 1 : ℝ) : EReal)) (hc : c (ix1 l) = ((v 2 : ℝ) : EReal))
    (hd : d (ix1 l) = ((v 3 : ℝ) : EReal)) (he : e (ix1 l) = ((v 4 : ℝ) : EReal)) (hf : f (ix1 l) = ((v 5 : ℝ) : EReal))
    (hg : g (ix1 l) = ((v 6 : ℝ) : EReal)) (hh : h (ix1 l) = ((v 7 : ℝ) : EReal)) (hi : i (ix1 l) = ((v 8 : ℝ) : EReal))
    (hj : j (ix1 l) = ((v 9 : ℝ) : EReal)) :
    (k0_pay15 x (k0_pay14 k0_pay13 x a b c d e f g) h i j : S16.Idx → EReal) (ix1 l) = ((∑ n : Fin 10, w n * v n : ℝ) : EReal) := by
  pointwise [Gen.k0_pay15, Gen.k0_pay14, Gen.k0_pay13]
  have x0 : x (ix1 0) = ((w 0 : ℝ) : EReal) := hx 0
  have x1 : x (ix1 1) = ((w 1 : ℝ) : EReal) := hx 1
  have x2 : x (ix1 2) = ((w 2 : ℝ) : EReal) := hx 2
  have x3 : x (ix1 3) = ((w 3 : ℝ) : EReal) := hx 3
  have x4 : x (ix1 4) = ((w 4 : ℝ) : EReal) := hx 4
  have x5 : x (ix1 5) = ((w 5 : ℝ) : EReal) := hx 5
  have x6 : x (ix1 6) = ((w 6 : ℝ) : EReal) := hx 6
  have x7 : x (ix1 7) = ((w 7 : ℝ) : EReal) := hx 7
  have x8 : x (ix1 8) = ((w 8 : ℝ) : EReal) := hx 8
  have x9 : x (ix1 9) = ((w 9 : ℝ) : EReal) := hx 9
  rw [x0, x1, x2, x3, x4, x5, x6, x7, x8, x9, ha, hb, hc, hd, he, hf, hg, hh, hi, hj]
  simp only [← EReal.coe_mul, ← EReal.coe_add]
  congr 1
  simp only [Fin.sum_univ_succ]
  simp
  ring_nf

/-- Lane `l` of the constant coefficients. -/
theorem first_at (w m b : Vec Ideal S16 .f32) (l : Fin 16) (w' mu : Fin 10 → ℝ)
    (hw : ∀ n : Fin 16, w (ix1 n) = ((nth w' n.val : ℝ) : EReal)) (hm : ∀ n : Fin 16, m (ix1 n) = ((nth mu n.val : ℝ) : EReal)) :
    (k0_pay20 w b (k0_pay16 w m) (k0_pay17 w m) (k0_pay18 w m) : S16.Idx → EReal) (ix1 l)
      = ((nth w' l.val : ℝ) : EReal) + (b (ix1 0) - ((centre w' mu : ℝ) : EReal)) := by
  pointwise [Gen.k0_pay20, Gen.k0_pay16, Gen.k0_pay17, Gen.k0_pay18]
  simp only [hw, hm, ← EReal.coe_mul, ← EReal.coe_add]
  congr 3
  unfold centre
  simp only [Fin.sum_univ_succ, nth]
  simp
  ring_nf

/-- Lane `l` of the coefficients of degree one. -/
theorem second_at (w m g c u : Vec Ideal S16 .f32) (l : Fin 16) {a b g0 g1 q : ℝ} (hw : w (ix1 l) = ((a : ℝ) : EReal)) (hu : u (ix1 l) = ((b : ℝ) : EReal))
    (hg : g (ix1 l) = ((g0 : ℝ) : EReal)) (hm : m (ix1 l) = ((g1 : ℝ) : EReal)) (hc : c (ix1 l) = ((q : ℝ) : EReal)) :
    (k0_pay21 w g c u m : S16.Idx → EReal) (ix1 l) = ((b - a + q * (-2 * g0 - g1) : ℝ) : EReal) := by
  pointwise [Gen.k0_pay21]
  rw [hw, hu, hg, hm, hc, lit_neg_two]
  simp only [← EReal.coe_mul, ← EReal.coe_add, ← EReal.coe_sub]

/-- Lane `l` of the coefficients of degree two. -/
theorem third_at (g c : Vec Ideal S16 .f32) (l : Fin 16) {g0 q : ℝ} (hg : g (ix1 l) = ((g0 : ℝ) : EReal)) (hc : c (ix1 l) = ((q : ℝ) : EReal)) :
    (k0_pay22 g c : S16.Idx → EReal) (ix1 l) = ((q * (3 * g0) : ℝ) : EReal) := by
  pointwise [Gen.k0_pay22]
  rw [hg, hc, lit_three]
  simp only [← EReal.coe_mul]

/-- Lane `l` of the coefficients of degree three. -/
theorem fourth_at (m g c : Vec Ideal S16 .f32) (l : Fin 16) {g0 g1 q : ℝ}
    (hg : g (ix1 l) = ((g0 : ℝ) : EReal)) (hm : m (ix1 l) = ((g1 : ℝ) : EReal)) (hc : c (ix1 l) = ((q : ℝ) : EReal)) :
    (k0_pay23 g c m : S16.Idx → EReal) (ix1 l) = ((q * (g1 - g0) : ℝ) : EReal) := by
  pointwise [Gen.k0_pay23]
  rw [hg, hm, hc]
  simp only [← EReal.coe_mul, ← EReal.coe_sub]

/-! ## The staged vectors and the table of coefficients -/

/-- The zero the scratch is filled with, over the reals. -/
theorem zf_eq : (zf (F := Ideal) : EReal) = ((0 : ℝ) : EReal) := lit_zero

/-- A coordinate by its number. -/
theorem at1_eq {n : ℕ} (k : ℕ) (h : k < n) : (at1 k h : (⟨1, ![n]⟩ : Shape).Idx) = ix1 ⟨k, h⟩ := idx1_ext rfl

/-- A lane by its number. -/
theorem lane (f : S16.Idx → EReal) (k : ℕ) (h : k < 16) (l : Fin 16) (e : k = l.val) : f (at1 k h) = f (ix1 l) :=
  congrArg f (idx1_ext e)

section Table

variable (W mean : Vec Ideal S10 .f32) (b : Vec Ideal S1 .f32) (w mu : Fin 10 → ℝ)
  (hw : ∀ k : Fin 10, W (ix1 k) = ((w k : ℝ) : EReal)) (hmu : ∀ k : Fin 10, mean (ix1 k) = ((mu k : ℝ) : EReal))

include hw in
/-- The first row of the staging scratch holds the weights. -/
theorem staged_w (n : ℕ) (h : n < 16) : (staged W mean b : S48.Idx → EReal) (at1 n (by omega)) = ((nth w n : ℝ) : EReal) := by
  unfold staged nth
  by_cases h10 : n < 10
  · rw [dif_pos (show ((at1 n (by omega) : S48.Idx) 0).val < 10 from h10), dif_pos h10]
    refine Eq.trans ?_ (hw ⟨n, h10⟩)
    exact congrArg W (idx1_ext rfl)
  · rw [dif_neg (show ¬ ((at1 n (by omega) : S48.Idx) 0).val < 10 from h10), dif_neg h10,
      dif_neg (show ¬ (16 ≤ ((at1 n (by omega) : S48.Idx) 0).val ∧ ((at1 n (by omega) : S48.Idx) 0).val < 26) from fun hh => by have : 16 ≤ n := hh.1; omega),
      if_neg (show ¬ ((at1 n (by omega) : S48.Idx) 0).val = 32 from fun hh => by have : n = 32 := hh; omega)]
    exact zf_eq

include hmu in
/-- The second row of the staging scratch holds the means. -/
theorem staged_mu (n : ℕ) (h : n < 16) : (staged W mean b : S48.Idx → EReal) (at1 (16 + n) (by omega)) = ((nth mu n : ℝ) : EReal) := by
  unfold staged nth
  rw [dif_neg (show ¬ ((at1 (16 + n) (by omega) : S48.Idx) 0).val < 10 from fun hh => by have : 16 + n < 10 := hh; omega)]
  by_cases h10 : n < 10
  · rw [dif_pos (show (16 ≤ ((at1 (16 + n) (by omega) : S48.Idx) 0).val ∧ ((at1 (16 + n) (by omega) : S48.Idx) 0).val < 26) from
      ⟨Nat.le_add_right _ _, show 16 + n < 26 by omega⟩), dif_pos h10]
    refine Eq.trans ?_ (hmu ⟨n, h10⟩)
    exact congrArg mean (idx1_ext (show 16 + n - 16 = n by omega))
  · rw [dif_neg h10,
      dif_neg (show ¬ (16 ≤ ((at1 (16 + n) (by omega) : S48.Idx) 0).val ∧ ((at1 (16 + n) (by omega) : S48.Idx) 0).val < 26) from fun hh => by have : 16 + n < 26 := hh.2; omega),
      if_neg (show ¬ ((at1 (16 + n) (by omega) : S48.Idx) 0).val = 32 from fun hh => by have : 16 + n = 32 := hh; omega)]
    exact zf_eq

/-- The third row of the staging scratch starts with the offset. -/
theorem staged_b : (staged W mean b : S48.Idx → EReal) (at1 32 (by omega)) = b (ix1 0) := by
  unfold staged
  rw [dif_neg (by decide), dif_neg (by decide), if_pos (show ((at1 32 (by omega) : S48.Idx) 0).val = 32 from rfl)]
  exact congrArg b (idx1_ext rfl)

include hw in
/-- The folded second derivatives are those of the spline with the weights as its values at the knots. -/
theorem folded_at (r : Fin 10) : (folded packed W mean b : S16.Idx → EReal) (ix1 ⟨r.val, by omega⟩) = ((bend w r : ℝ) : EReal) := by
  have pk (j : Fin 10) (o : ℕ) (ho : o = 16 * j.val) (hh : o + 16 ≤ 176) :
      (row (packed (F := Ideal)) o hh : S16.Idx → EReal) (ix1 ⟨r.val, by omega⟩) = ((curv r j : ℝ) : EReal) := by
    subst ho
    refine Eq.trans ?_ (packed_at r j)
    exact congrArg packed (idx1_ext rfl)
  unfold folded
  refine fold_at _ _ _ _ _ _ _ _ _ _ _ _ w (curv r) (fun n => ?_) (pk 0 0 rfl (by decide)) (pk 1 16 rfl (by decide)) (pk 2 32 rfl (by decide)) (pk 3 48 rfl (by decide))
    (pk 4 64 rfl (by decide)) (pk 5 80 rfl (by decide)) (pk 6 96 rfl (by decide)) (pk 7 112 rfl (by decide)) (pk 8 128 rfl (by decide)) (pk 9 144 rfl (by decide))
  refine Eq.trans ?_ ((staged_w W mean b w hw n.val (by omega)).trans (congrArg _ (nth_of_lt w n.isLt)))
  exact congrArg (staged W mean b) (idx1_ext (Nat.zero_add _))

include hw in
/-- The same, one lane on. -/
theorem padded_at (l : Fin 9) : (row (padded (folded packed W mean b)) 1 (by decide) : S16.Idx → EReal) (ix1 ⟨l.val, by omega⟩) = ((bend w ⟨l.val + 1, by omega⟩ : ℝ) : EReal) := by
  refine Eq.trans ?_ (folded_at W mean b w hw ⟨l.val + 1, by omega⟩)
  unfold row padded
  have h : ((at1 (1 + l.val) (by omega) : S32.Idx) 0).val < 16 := by show 1 + l.val < 16; omega
  refine (dif_pos h).trans ?_
  exact congrArg (folded packed W mean b) (idx1_ext (Nat.add_comm 1 l.val))

/-- The constant the coefficients are scaled by. -/
theorem scale_at (l : Fin 9) : (row (packed (F := Ideal)) 160 (by decide) : S16.Idx → EReal) (ix1 ⟨l.val, by omega⟩) = ((1 / 486 : ℝ) : EReal) := by
  refine Eq.trans ?_ (packed_last l)
  exact congrArg packed (idx1_ext rfl)

include hw in
/-- The weights, one lane on. -/
theorem next_at (l : Fin 9) : (row (staged W mean b) 1 (by decide) : S16.Idx → EReal) (ix1 ⟨l.val, by omega⟩) = ((w ⟨l.val + 1, by omega⟩ : ℝ) : EReal) := by
  refine Eq.trans ?_ ((staged_w W mean b w hw (l.val + 1) (by omega)).trans (congrArg _ (nth_of_lt w (by omega))))
  exact congrArg (staged W mean b) (idx1_ext (Nat.add_comm 1 l.val))

include hw in
/-- The weights. -/
theorem this_at (n : Fin 16) : (row (staged W mean b) 0 (by decide) : S16.Idx → EReal) (ix1 n) = ((nth w n.val : ℝ) : EReal) := by
  refine Eq.trans ?_ (staged_w W mean b w hw n.val n.isLt)
  exact congrArg (staged W mean b) (idx1_ext (Nat.zero_add _))

include hw hmu in
/-- The constant coefficient of segment `l`. -/
theorem table_first (l : Fin 9) : (table packed W mean b : S64.Idx → EReal) (at1 l.val (by omega))
    = ((w ⟨l.val, by omega⟩ : ℝ) : EReal) + (b (ix1 0) - ((centre w mu : ℝ) : EReal)) := by
  unfold table
  refine (dif_pos (show ((at1 l.val (by omega) : S64.Idx) 0).val < 16 by show l.val < 16; omega)).trans ?_
  refine (lane _ _ _ ⟨l.val, by omega⟩ rfl).trans ?_
  refine (first_at _ _ _ ⟨l.val, by omega⟩ w mu (this_at W mean b w hw) (fun n => ?_)).trans ?_
  · exact staged_mu W mean b mu hmu n.val n.isLt
  · refine congrArg₂ (fun p q : EReal => p + (q - ((centre w mu : ℝ) : EReal))) (congrArg _ (nth_of_lt w (show l.val < 10 by omega))) ?_
    exact staged_b W mean b

include hw in
/-- The coefficient of degree one of segment `l`. -/
theorem table_second (l : Fin 9) : (table packed W mean b : S64.Idx → EReal) (at1 (l.val + 16) (by omega))
    = ((w ⟨l.val + 1, by omega⟩ - w ⟨l.val, by omega⟩ + 1 / 486 * (-2 * bend w ⟨l.val, by omega⟩ - bend w ⟨l.val + 1, by omega⟩) : ℝ) : EReal) := by
  unfold table
  refine (dif_neg (show ¬ ((at1 (l.val + 16) (by omega) : S64.Idx) 0).val < 16 by show ¬ l.val + 16 < 16; omega)).trans ?_
  refine (dif_pos (show ((at1 (l.val + 16) (by omega) : S64.Idx) 0).val < 32 by show l.val + 16 < 32; omega)).trans ?_
  refine (lane _ _ _ ⟨l.val, by omega⟩ (show l.val + 16 - 16 = l.val by omega)).trans ?_
  exact second_at _ _ _ _ _ _ ((this_at W mean b w hw ⟨l.val, by omega⟩).trans (congrArg _ (nth_of_lt w (show l.val < 10 by omega)))) (next_at W mean b w hw l)
    (folded_at W mean b w hw ⟨l.val, by omega⟩) (padded_at W mean b w hw l) (scale_at l)

include hw in
/-- The coefficient of degree two of segment `l`. -/
theorem table_third (l : Fin 9) : (table packed W mean b : S64.Idx → EReal) (at1 (l.val + 32) (by omega))
    = ((1 / 486 * (3 * bend w ⟨l.val, by omega⟩) : ℝ) : EReal) := by
  unfold table
  refine (dif_neg (show ¬ ((at1 (l.val + 32) (by omega) : S64.Idx) 0).val < 16 by show ¬ l.val + 32 < 16; omega)).trans ?_
  refine (dif_neg (show ¬ ((at1 (l.val + 32) (by omega) : S64.Idx) 0).val < 32 by show ¬ l.val + 32 < 32; omega)).trans ?_
  refine (dif_pos (show ((at1 (l.val + 32) (by omega) : S64.Idx) 0).val < 48 by show l.val + 32 < 48; omega)).trans ?_
  refine (lane _ _ _ ⟨l.val, by omega⟩ (show l.val + 32 - 32 = l.val by omega)).trans ?_
  exact third_at _ _ _ (folded_at W mean b w hw ⟨l.val, by omega⟩) (scale_at l)

include hw in
/-- The coefficient of degree three of segment `l`. -/
theorem table_fourth (l : Fin 9) : (table packed W mean b : S64.Idx → EReal) (at1 (l.val + 48) (by omega))
    = ((1 / 486 * (bend w ⟨l.val + 1, by omega⟩ - bend w ⟨l.val, by omega⟩) : ℝ) : EReal) := by
  unfold table
  refine (dif_neg (show ¬ ((at1 (l.val + 48) (by omega) : S64.Idx) 0).val < 16 by show ¬ l.val + 48 < 16; omega)).trans ?_
  refine (dif_neg (show ¬ ((at1 (l.val + 48) (by omega) : S64.Idx) 0).val < 32 by show ¬ l.val + 48 < 32; omega)).trans ?_
  refine (dif_neg (show ¬ ((at1 (l.val + 48) (by omega) : S64.Idx) 0).val < 48 by show ¬ l.val + 48 < 48; omega)).trans ?_
  refine (lane _ _ _ ⟨l.val, by omega⟩ (show l.val + 48 - 48 = l.val by omega)).trans ?_
  exact fourth_at _ _ _ _ (folded_at W mean b w hw ⟨l.val, by omega⟩) (padded_at W mean b w hw l) (scale_at l)

end Table

/-! ## One point -/

/-- The number of the segment of a point. -/
def segment (t : ℝ) : ℕ := min 8 ⌊9 * t⌋₊

/-- There are nine segments. -/
theorem segment_lt (t : ℝ) : segment t < 9 := by have := min_le_left 8 ⌊9 * t⌋₊; unfold segment; omega

/-- A word between 0 and 9, kept between 0 and 8. -/
theorem clip_word (n : ℕ) (h : n ≤ 9) : IntOp.minsi (IntOp.maxsi (BitVec.ofNat 32 n) 0#32) 8#32 = BitVec.ofNat 32 (min 8 n) := by
  interval_cases n <;> rfl

/-- The word of a segment's number, for a point between 0 and 1. -/
theorem seg_at (t : ℝ) (h0 : 0 ≤ t) (h1 : t ≤ 1) : seg (F := Ideal) ((t : ℝ) : EReal) = BitVec.ofNat 32 (segment t) := by
  have n9 : ⌊9 * t⌋₊ ≤ 9 := Nat.floor_le_of_le (by push_cast; linarith)
  have f : ⌊9 * t⌋ = ((⌊9 * t⌋₊ : ℕ) : ℤ) := (Int.natCast_floor_eq_floor (by linarith)).symm
  have key : (FloatOps.fptosi (F := Ideal) (φ := .f32) 32 (((9 * t : ℝ) : EReal)) : BitVec 32) = BitVec.ofNat 32 ⌊9 * t⌋₊ := by
    show Ideal.fptosi 32 (((9 * t : ℝ) : EReal)) = _
    unfold Ideal.fptosi
    rw [Ideal.toIntClamped_coe]
    rw [if_pos (by linarith), f]
    generalize ⌊9 * t⌋₊ = n at n9
    interval_cases n <;> rfl
  unfold seg
  rw [at1_eq]
  pointwise [Gen.k0_pay2, Gen.k0_pay1]
  rw [lit_nine, ← EReal.coe_mul, mul_comm t 9, key]
  exact clip_word _ n9

/-- Evaluating a cubic at a point. -/
theorem cubic_at (t : ℝ) (k : ℕ) (hk : k < 9) (a : EReal) (b c e : ℝ) :
    (cubic (F := Ideal) ((t : ℝ) : EReal) (BitVec.ofNat 32 k) a ((b : ℝ) : EReal) ((c : ℝ) : EReal) ((e : ℝ) : EReal) : EReal)
      = a + (((9 * t - k) * (b + (9 * t - k) * (c + (9 * t - k) * e)) : ℝ) : EReal) := by
  unfold cubic
  rw [at1_eq]
  pointwise [Gen.k0_pay3, Gen.k0_pay1]
  have s : (FloatOps.sitofp (F := Ideal) FTy.f32 (BitVec.ofNat 32 k) : EReal) = ((k : ℝ) : EReal) := sitofp_ofNat k (by omega)
  rw [s, lit_nine, ← EReal.coe_mul, mul_comm t 9]
  simp only [← EReal.coe_mul, ← EReal.coe_add, ← EReal.coe_sub]

/-- The cubic of a point, without its constant coefficient. -/
def rise (w : Fin 10 → ℝ) (t : ℝ) : ℝ :=
  let l : Fin 9 := ⟨segment t, segment_lt t⟩
  let s : ℝ := 9 * t - segment t
  s * (w l.succ - w l.castSucc + 1 / 486 * (-2 * bend w l.castSucc - bend w l.succ)
    + s * (1 / 486 * (3 * bend w l.castSucc) + s * (1 / 486 * (bend w l.succ - bend w l.castSucc))))

/-- The kernel's value at a point between 0 and 1. -/
theorem point_at (W mean : Vec Ideal S10 .f32) (b : Vec Ideal S1 .f32) (w mu : Fin 10 → ℝ)
    (hw : ∀ k : Fin 10, W (ix1 k) = ((w k : ℝ) : EReal)) (hmu : ∀ k : Fin 10, mean (ix1 k) = ((mu k : ℝ) : EReal))
    (t : ℝ) (h0 : 0 ≤ t) (h1 : t ≤ 1) :
    (point (table packed W mean b) ((t : ℝ) : EReal) : EReal)
      = ((w (Fin.castSucc ⟨segment t, segment_lt t⟩) : ℝ) : EReal) + (b (ix1 0) - ((centre w mu : ℝ) : EReal)) + ((rise w t : ℝ) : EReal) := by
  have hl := segment_lt t
  have hs := seg_at t h0 h1
  have hn : (seg (F := Ideal) ((t : ℝ) : EReal)).toNat = segment t := by
    rw [hs, BitVec.toNat_ofNat]; exact Nat.mod_eq_of_lt (by omega)
  have r (o : ℕ) (ho : o ≤ 48) : (table packed W mean b : S64.Idx → EReal) (at1 ((seg (F := Ideal) ((t : ℝ) : EReal)).toNat + o) (by have := seg_le (F := Ideal) ((t : ℝ) : EReal); omega))
      = (table packed W mean b : S64.Idx → EReal) (at1 (segment t + o) (by omega)) := congrArg _ (idx1_ext (congrArg (· + o) hn))
  have r0 := (r 0 (by omega)).trans (table_first W mean b w mu hw hmu ⟨segment t, hl⟩)
  have r1 := (r 16 (by omega)).trans (table_second W mean b w hw ⟨segment t, hl⟩)
  have r2 := (r 32 (by omega)).trans (table_third W mean b w hw ⟨segment t, hl⟩)
  have r3 := (r 48 (by omega)).trans (table_fourth W mean b w hw ⟨segment t, hl⟩)
  unfold point
  refine Eq.trans ?_ (cubic_at t (segment t) hl _ _ _ _)
  exact congr (congr (congr (congr (congrArg (cubic (F := Ideal) ((t : ℝ) : EReal)) hs) r0) r1) r2) r3

end Cert.Proof.Spline

end
-- ==== Proof.Equal.lean ====
module

public import proofs.«01_k».proof.Proof.RefValue
public import proofs.«01_k».proof.Proof.KernelValue
public import Idealize.ShloMosaic.Lib.ReduceAll

/-! # The two values at one point are the same number

At a point strictly between two knots the kernel's segment is the reference's interval, and its cubic is the reference's sum
written in powers. At a knot the kernel may take the segment to the right where the reference takes the interval to the left:
both then give the weight at that knot. -/

@[expose] public section

noncomputable section

namespace Cert.Proof.Spline

open Idealize.ShloMosaic Idealize.SL.Sem

/-- The kernel's segment starts one knot before the reference's interval ends, or the point is the knot they share. -/
theorem segment_cell {t : ℝ} (h0 : 0 ≤ t) (h1 : t ≤ 1) : segment t + 1 = cell t ∨ (segment t = cell t ∧ 9 * t = (segment t : ℝ)) := by
  have y0 : (0 : ℝ) ≤ 9 * t := by linarith
  have n9 : ⌊9 * t⌋₊ ≤ 9 := Nat.floor_le_of_le (by push_cast; linarith)
  have c9 : ⌈9 * t⌉₊ ≤ 9 := Nat.ceil_le.2 (by push_cast; linarith)
  have a := Nat.floor_le_ceil (9 * t)
  have b := Nat.ceil_le_floor_add_one (9 * t)
  unfold segment cell
  rcases Nat.lt_or_ge ⌊9 * t⌋₊ ⌈9 * t⌉₊ with h | h
  · left; omega
  · have e : ⌊9 * t⌋₊ = ⌈9 * t⌉₊ := by omega
    have f := Nat.floor_le y0
    have g := Nat.le_ceil (9 * t)
    rw [← e] at g
    have q : 9 * t = (⌊9 * t⌋₊ : ℝ) := le_antisymm g f
    rcases Nat.eq_zero_or_pos ⌊9 * t⌋₊ with z | z
    · left; omega
    · rcases Nat.lt_or_ge ⌊9 * t⌋₊ 9 with z' | z'
      · right
        refine ⟨by omega, ?_⟩
        rw [Nat.min_eq_right (by omega)]
        exact q
      · left; omega

/-- A weight picked by its column's number. -/
theorem pick (w : Fin 10 → ℝ) (n : Fin 10) (c : ℝ) : (∑ k : Fin 10, (if k.val = n.val then c else 0) * w k) = c * w n := by
  have e (k : Fin 10) : (if k.val = n.val then c else 0) * w k = if k = n then c * w k else 0 := by
    by_cases h : k = n
    · subst h; simp
    · rw [if_neg h, if_neg (fun hh => h (Fin.ext hh)), zero_mul]
  rw [Finset.sum_congr rfl (fun k _ => e k)]
  simp

/-- The reference's sum, in terms of the second derivatives at the two knots around the point. -/
theorem basis_sum (w mu : Fin 10 → ℝ) (t : ℝ) (l : Fin 9) (hl : cell t = l.val + 1) :
    (∑ k : Fin 10, (basis t k - mu k) * w k)
      = ((((l.val + 1 : ℝ) / 9 - t) ^ 3 / (1 / 9) - 1 / 9 * ((l.val + 1 : ℝ) / 9 - t)) / 6) * bend w l.castSucc
        + (((t - (l.val : ℝ) / 9) ^ 3 / (1 / 9) - 1 / 9 * (t - (l.val : ℝ) / 9)) / 6) * bend w l.succ
        + (((l.val + 1 : ℝ) / 9 - t) / (1 / 9)) * w l.castSucc + ((t - (l.val : ℝ) / 9) / (1 / 9)) * w l.succ - centre w mu := by
  have f0 : Fin.ofNat 10 (cell t - 1) = l.castSucc := Fin.ext (by rw [hl]; exact Nat.mod_eq_of_lt (by have := l.isLt; omega))
  have f1 : Fin.ofNat 10 (cell t) = l.succ := Fin.ext (by rw [hl]; exact Nat.mod_eq_of_lt (by have := l.isLt; omega))
  have p0 := pick w l.castSucc (((l.val + 1 : ℝ) / 9 - t) / (1 / 9))
  have p1 := pick w l.succ ((t - (l.val : ℝ) / 9) / (1 / 9))
  rw [← p0, ← p1]
  unfold bend centre
  rw [Finset.mul_sum, Finset.mul_sum, ← Finset.sum_add_distrib, ← Finset.sum_add_distrib, ← Finset.sum_add_distrib, ← Finset.sum_sub_distrib]
  refine Finset.sum_congr rfl fun k _ => ?_
  have hb : basis t k = ((((l.val + 1 : ℝ) / 9 - t) * ((l.val + 1 : ℝ) / 9 - t) * ((l.val + 1 : ℝ) / 9 - t)) / (1 / 9) - 1 / 9 * ((l.val + 1 : ℝ) / 9 - t)) / 6 * curv l.castSucc k
      + (((t - (l.val : ℝ) / 9) * (t - (l.val : ℝ) / 9) * (t - (l.val : ℝ) / 9)) / (1 / 9) - 1 / 9 * (t - (l.val : ℝ) / 9)) / 6 * curv l.succ k
      + (if k.val = l.castSucc.val then ((l.val + 1 : ℝ) / 9 - t) / (1 / 9) else 0) + (if k.val = l.succ.val then (t - (l.val : ℝ) / 9) / (1 / 9) else 0) := by
    unfold basis
    simp only [f0, f1]
    have c1 : cell t - 1 = l.val := by omega
    rw [c1, hl]
    push_cast
    rfl
  rw [hb]
  ring

/-- The kernel's cubic is the reference's sum. -/
theorem values_eq (w mu : Fin 10 → ℝ) {t : ℝ} (h0 : 0 ≤ t) (h1 : t ≤ 1) :
    w (Fin.castSucc ⟨segment t, segment_lt t⟩) - centre w mu + rise w t = ∑ k : Fin 10, (basis t k - mu k) * w k := by
  rcases segment_cell h0 h1 with h | ⟨h, q⟩
  · rw [basis_sum w mu t ⟨segment t, segment_lt t⟩ h.symm]
    unfold rise
    simp only
    ring
  · have c1 := one_le_cell t
    have s9 := segment_lt t
    obtain ⟨n, hn⟩ : ∃ n, segment t = n + 1 := ⟨segment t - 1, by omega⟩
    rw [basis_sum w mu t ⟨n, by omega⟩ (by show cell t = n + 1; omega)]
    have e : Fin.castSucc (⟨segment t, segment_lt t⟩ : Fin 9) = Fin.succ (⟨n, by omega⟩ : Fin 9) := Fin.ext hn
    have r : rise w t = 0 := by
      unfold rise
      simp only
      rw [q]
      ring
    have qn : t = ((n : ℝ) + 1) / 9 := by
      rw [hn] at q
      push_cast at q
      linarith
    have u : ((n : ℝ) + 1) / 9 - t = 0 := by rw [qn]; ring
    have v : t - (n : ℝ) / 9 = 1 / 9 := by rw [qn]; ring
    rw [r, e]
    simp only [u, v]
    ring

/-- The kernel's result and the reference's, with any offset. -/
theorem result_eq (w mu : Fin 10 → ℝ) (β : EReal) {t : ℝ} (h0 : 0 ≤ t) (h1 : t ≤ 1) :
    ((w (Fin.castSucc ⟨segment t, segment_lt t⟩) : ℝ) : EReal) + (β - ((centre w mu : ℝ) : EReal)) + ((rise w t : ℝ) : EReal)
      = ((∑ k : Fin 10, (basis t k - mu k) * w k : ℝ) : EReal) + β := by
  rw [← values_eq w mu h0 h1, sub_eq_add_neg, ← EReal.coe_neg, add_comm β, ← add_assoc, add_right_comm, ← EReal.coe_add, ← EReal.coe_add, ← sub_eq_add_neg]

/-! ## The precondition -/

/-- The side conditions of the precondition's operations. -/
theorem in_domain_facts : Cert.Pre_in_domain.Facts :=
  ⟨by decide, by decide, by decide, by decide, by decide⟩

/-- An extended real between 0 and 1 is a real between 0 and 1. -/
theorem real_of_unit {x : EReal} (h0 : ((0 : ℝ) : EReal) ≤ x) (h1 : x ≤ ((1 : ℝ) : EReal)) : ∃ r : ℝ, x = ((r : ℝ) : EReal) ∧ 0 ≤ r ∧ r ≤ 1 := by
  induction x with
  | bot => exact absurd h0 (not_le.2 (EReal.bot_lt_coe 0))
  | coe r => exact ⟨r, rfl, EReal.coe_le_coe_iff.1 h0, EReal.coe_le_coe_iff.1 h1⟩
  | top => exact absurd h1 (not_le.2 (EReal.coe_lt_top 1))

/-- An extended real whose absolute value lies below infinity is real. -/
theorem real_of_abs {x : EReal} (h : BitVec.ofBool (decide ((FloatOps.absf (F := Ideal) (φ := .f32) x : EReal) < Ideal.ofBits FTy.f32 2139095040#32)) = 1#1) :
    ∃ r : ℝ, x = ((r : ℝ) : EReal) := by
  have h' : (max x (-x) : EReal) < ⊤ := by
    have e : (FloatOps.absf (F := Ideal) (φ := .f32) x : EReal) = max x (-x) := rfl
    rw [e, lit_top] at h
    by_contra hn
    rw [decide_eq_false hn] at h
    exact absurd h (by decide)
  induction x with
  | bot => exact absurd h' (by simp)
  | coe r => exact ⟨r, rfl⟩
  | top => exact absurd h' (by simp)

/-- A comparison whose bit is 1 holds. -/
theorem of_bit {p : Prop} [Decidable p] (h : BitVec.ofBool (decide p) = 1#1) : p := by
  by_contra hn
  rw [decide_eq_false hn] at h
  exact absurd h (by decide)

section Decode

open Cert.Pre_in_domain

attribute [local instance] in_domain_facts

/-- Where the precondition holds, every point is a real between 0 and 1 and the weights and means are real. -/
theorem in_domain_real (x : FVec Ideal S1000000 .f32) (W : FVec Ideal S1x10 .f32) (b : FVec Ideal S1 .f32) (mean : FVec Ideal S1x10 .f32)
    (h : fn (F := Ideal) x W b mean = fun _ => 1#1) :
    (∀ i : Fin 1000000, ∃ r : ℝ, x (ix1 i) = ((r : ℝ) : EReal) ∧ 0 ≤ r ∧ r ≤ 1)
      ∧ (∀ k : Fin 10, ∃ r : ℝ, W (ix2 0 k) = ((r : ℝ) : EReal)) ∧ (∀ k : Fin 10, ∃ r : ℝ, mean (ix2 0 k) = ((r : ℝ) : EReal)) := by
  have h' := congrFun h ix0
  unfold fn fn_part1 at h'
  simp only [andi] at h'
  have key (a b : BitVec 1) : IntOp.andi a b = 1#1 ↔ a = 1#1 ∧ b = 1#1 := by revert a b; decide
  rw [key, key, key] at h'
  obtain ⟨⟨⟨a, b⟩, c⟩, d⟩ := h'
  refine ⟨fun i => ?_, fun k => ?_, fun k => ?_⟩
  · have a' := Host.reduce_andi_all _ _ _ _ _ a (ix1 i)
    have b' := Host.reduce_andi_all _ _ _ _ _ b (ix1 i)
    pointwise at a' b'
    have a'' := of_bit a'
    have b'' := of_bit b'
    exact real_of_unit (by simpa using a'') (by simpa using b'')
  · have c' := Host.reduce_andi_all _ _ _ _ _ c (ix2 0 k)
    pointwise at c'
    exact real_of_abs c'
  · have d' := Host.reduce_andi_all _ _ _ _ _ d (ix2 0 k)
    pointwise at d'
    exact real_of_abs d'

end Decode

/-- The kernel's column at one point. -/
theorem column_at (x : Vec Ideal Cert.KernelIdeal.S1000000 .f32) (W : Vec Ideal Cert.KernelIdeal.S1x10 .f32) (b : Vec Ideal Cert.KernelIdeal.S1 .f32)
    (mean : Vec Ideal Cert.KernelIdeal.S1x10 .f32) (i : Fin 1000000) (z : Fin 1) (w mu : Fin 10 → ℝ) (t : ℝ) (h0 : 0 ≤ t) (h1 : t ≤ 1)
    (hx : x (ix1 i) = ((t : ℝ) : EReal)) (hw : ∀ k, W (ix2 0 k) = ((w k : ℝ) : EReal)) (hmu : ∀ k, mean (ix2 0 k) = ((mu k : ℝ) : EReal)) :
    (column x W b mean : Cert.KernelIdeal.S1000000x1.Idx → EReal) (ix2 i z) = ((∑ k : Fin 10, (basis t k - mu k) * w k : ℝ) : EReal) + b (ix1 0) := by
  rw [← result_eq w mu (b (ix1 0)) h0 h1]
  have hW (k : Fin 10) : (shapeCast Cert.KernelIdeal.S10 W Cert.KernelIdeal.Gen.shapeCasts_S1x10_S10 : Cert.KernelIdeal.S10.Idx → EReal) (ix1 k) = ((w k : ℝ) : EReal) := by
    pointwise
    exact hw k
  have hM (k : Fin 10) : (shapeCast Cert.KernelIdeal.S10 mean Cert.KernelIdeal.Gen.shapeCasts_S1x10_S10 : Cert.KernelIdeal.S10.Idx → EReal) (ix1 k) = ((mu k : ℝ) : EReal) := by
    pointwise
    exact hmu k
  rw [← point_at _ _ b w mu hW hM t h0 h1]
  unfold column
  generalize table packed (shapeCast Cert.KernelIdeal.S10 W Cert.KernelIdeal.Gen.shapeCasts_S1x10_S10) (shapeCast Cert.KernelIdeal.S10 mean Cert.KernelIdeal.Gen.shapeCasts_S1x10_S10) b = T
  have r : (result T x : Cert.KernelIdeal.S1000000.Idx → EReal) (ix1 i) = point T ((t : ℝ) : EReal) := congrArg (point T) hx
  rw [← r]
  generalize result T x = R
  pointwise

end Cert.Proof.Spline

namespace Cert.Proof

open Idealize.ShloMosaic Idealize.SL.Sem Spline

attribute [local instance] in_domain_facts

/-- From equal arguments in the domain, the kernel and the reference end with equal results over the reals. -/
theorem algebraic : Cert.algebraic_KernelIdeal_ReferenceIdeal_pre_in_domain := by
  intro m g m' g' hpre harg
  have dec := fun c => in_domain_real _ _ _ _ (hpre c)
  choose t ht ht0 ht1 using fun c => (dec c).1
  choose w hw using fun c => (dec c).2.1
  choose mu hmu using fun c => (dec c).2.2
  refine ⟨_, (θ_run Cert.KernelIdeal.defs _ _).mono (fun r h => h.1) (run_main (F := Ideal) m g), ?_⟩
  have ref := reference_run m' g' t w mu ht0 ht1 (fun c i => (congrFun (harg c).1 (ix1 i)).trans (ht c i))
    (fun c k => (congrFun (harg c).2.1 (ix2 0 k)).trans (hw c k)) (fun c k => (congrFun (harg c).2.2.2 (ix2 0 k)).trans (hmu c k))
  refine (θ_run Cert.ReferenceIdeal.defs _ _).mono (fun r h c => ⟨(h c).1.trans ?_, (h c).2⟩) ref
  refine funext fun j => ?_
  idx_vars j
  refine Eq.trans ?_ (column_at _ _ _ _ j0 j1 (w c) (mu c) (t c j0) (ht0 c j0) (ht1 c j0) (ht c j0) (hw c) (hmu c)).symm
  exact congrArg (fun β : EReal => ((∑ k : Fin 10, (basis (t c j0) k - mu c k) * w c k : ℝ) : EReal) + β) (congrFun (harg c).2.2.1 (ix1 0))

end Cert.Proof

end
-- ==== Proof.lean ====
/- The claims: each program runs to its end and leaves its arguments and every semaphore at zero, and over the reals the
   kernel and the reference end with equal results. -/
module

public import proofs.«01_k».proof.Defs
public import proofs.«01_k».proof.Proof.Frames
public import proofs.«01_k».proof.Proof.Reference
public import proofs.«01_k».proof.Proof.Equal
public import proofs.«01_k».proof.Proof.Gen.KernelIdeal

@[expose] public section

noncomputable section

namespace Cert.Proof

/-- All the claims. -/
theorem claim : Cert.Claim :=
  ⟨Cert.Kernel.Gen.facts, Cert.KernelIdeal.Gen.facts, Cert.ReferenceIdeal.Gen.facts, Spline.in_domain_facts,
    frame_kernel, frame_ideal, fun m g _ => frame_ideal m g trivial, frame_reference, fun m g _ => frame_reference m g trivial, trivial, algebraic⟩

end Cert.Proof

end
